-- ==== Defs.lean ====
def Pre_Kernel [hPre_owners_in_range : Cert.Pre_owners_in_range.Facts] (m : (ℓ : Loc Cert.Kernel.nD Cert.Kernel.τ Cert.Kernel.sig) → Buf (Elt Bits) ℓ) : Prop :=
  ∀ c : Dev Cert.Kernel.nD,
    (Cert.Pre_owners_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_owners_in_range : Cert.Pre_owners_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_owners_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range [hPre_finite_and_in_range : Cert.Pre_finite_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def quiescent_Kernel [hKernel : Cert.Kernel.Facts] [hPre_owners_in_range : Cert.Pre_owners_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_owners_in_range : Cert.Pre_owners_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_and_in_range [hReferenceIdeal : Cert.ReferenceIdeal.Facts] [hPre_finite_and_in_range : Cert.Pre_finite_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_and_in_range [hKernelIdeal : Cert.KernelIdeal.Facts] [hReferenceIdeal : Cert.ReferenceIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_owners_in_range : Cert.Pre_owners_in_range.Facts) (hPre_finite_and_in_range : Cert.Pre_finite_and_in_range.Facts),
    quiescent_Kernel (hKernel := hKernel) (hPre_owners_in_range := hPre_owners_in_range)
    ∧ quiescent_KernelIdeal (hKernelIdeal := hKernelIdeal) (hPre_owners_in_range := hPre_owners_in_range)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_finite_and_in_range (hReferenceIdeal := hReferenceIdeal) (hPre_finite_and_in_range := hPre_finite_and_in_range)
    ∧ preserves_Kernel_KernelIdeal
    ∧ algebraic_KernelIdeal_ReferenceIdeal_pre_finite_and_in_range (hKernelIdeal := hKernelIdeal) (hReferenceIdeal := hReferenceIdeal) (hPre_finite_and_in_range := hPre_finite_and_in_range)
-- ==== Pre_finite_and_in_range.lean ====
abbrev S320000x128 : Shape := ⟨2, ![320000, 128]⟩
abbrev S320000 : Shape := ⟨1, ![320000]⟩
abbrev S128x32 : Shape := ⟨2, ![128, 32]⟩
abbrev S32 : Shape := ⟨1, ![32]⟩
abbrev S32x3 : Shape := ⟨2, ![32, 3]⟩
abbrev S3 : Shape := ⟨1, ![3]⟩
abbrev S_ : Shape := ⟨0, ![]⟩

class Facts : Prop where
  bcast_S_S320000 : S_.BroadcastsInDim S320000 (![] : Fin 0 → Fin S320000.rank)
  bcast_S_S320000x128 : S_.BroadcastsInDim S320000x128 (![] : Fin 0 → Fin S320000x128.rank)
  bcast_S_S128x32 : S_.BroadcastsInDim S128x32 (![] : Fin 0 → Fin S128x32.rank)
  bcast_S_S32 : S_.BroadcastsInDim S32 (![] : Fin 0 → Fin S32.rank)
  bcast_S_S32x3 : S_.BroadcastsInDim S32x3 (![] : Fin 0 → Fin S32x3.rank)
  bcast_S_S3 : S_.BroadcastsInDim S3 (![] : Fin 0 → Fin S3.rank)

variable [Facts]

def fn_part1 {F : FTy → Type} [FloatOps F] (main_arg3 : FVec F S32 .f32) (main_arg4 : FVec F S32x3 .f32) (main_arg5 : FVec F S3 .f32) (main_v4 : IVec S320000 1) (main_v9 : IVec S320000x128 1) (main_v14 : IVec S128x32 1) (main_v16 : IVec S32 1) : IVec S320000 1 × IVec S320000x128 1 × IVec S128x32 1 × IVec S32 1 × IVec S32x3 1 × IVec S3 1 :=
  let main_cst_5 : FVec F S_ .f32 := constant S_ .f32 0x7F800000#32
  let main_v17 : FVec F S32 .f32 := broadcastInDim S32 ![] bcast_S_S32 main_cst_5
  let main_v18 : IVec S32 1 := cmpf .olt main_arg3 main_v17
  let main_v19 : IVec S32 1 := andi main_v16 main_v18
  let main_cst_6 : FVec F S_ .f32 := constant S_ .f32 0xFF800000#32
  let main_v20 : FVec F S32x3 .f32 := broadcastInDim S32x3 ![] bcast_S_S32x3 main_cst_6
  let main_v21 : IVec S32x3 1 := cmpf .ogt main_arg4 main_v20
  let main_cst_7 : FVec F S_ .f32 := constant S_ .f32 0x7F800000#32
  let main_v22 : FVec F S32x3 .f32 := broadcastInDim S32x3 ![] bcast_S_S32x3 main_cst_7
  let main_v23 : IVec S32x3 1 := cmpf .olt main_arg4 main_v22
  let main_v24 : IVec S32x3 1 := andi main_v21 main_v23
  let main_cst_8 : FVec F S_ .f32 := constant S_ .f32 0xFF800000#32
  let main_v25 : FVec F S3 .f32 := broadcastInDim S3 ![] bcast_S_S3 main_cst_8
  let main_v26 : IVec S3 1 := cmpf .ogt main_arg5 main_v25
  let main_cst_9 : FVec F S_ .f32 := constant S_ .f32 0x7F800000#32
  let main_v27 : FVec F S3 .f32 := broadcastInDim S3 ![] bcast_S_S3 main_cst_9
  let main_v28 : IVec S3 1 := cmpf .olt main_arg5 main_v27
  let main_v29 : IVec S3 1 := andi main_v26 main_v28
  (main_v4, main_v9, main_v14, main_v19, main_v24, main_v29)

def fn {F : FTy → Type} [FloatOps F] (main_arg0 : FVec F S320000x128 .f32) (main_arg1 : IVec S320000 32) (main_arg2 : FVec F S128x32 .f32) (main_arg3 : FVec F S32 .f32) (main_arg4 : FVec F S32x3 .f32) (main_arg5 : FVec F S3 .f32) : IVec S320000 1 × IVec S320000x128 1 × IVec S128x32 1 × IVec S32 1 × IVec S32x3 1 × IVec S3 1 :=
  let main_c : IVec S_ 32 := constantI S_ 32 0#32
  let main_v0 : IVec S320000 32 := broadcastInDim S320000 ![] bcast_S_S320000 main_c
  let main_v1 : IVec S320000 1 := cmpi .sge main_arg1 main_v0
  let main_c_0 : IVec S_ 32 := constantI S_ 32 1000#32
  let main_v2 : IVec S320000 32 := broadcastInDim S320000 ![] bcast_S_S320000 main_c_0
  let main_v3 : IVec S320000 1 := cmpi .slt main_arg1 main_v2
  let main_v4 : IVec S320000 1 := andi main_v1 main_v3
  let main_cst : FVec F S_ .f32 := constant S_ .f32 0xFF800000#32
  let main_v5 : FVec F S320000x128 .f32 := broadcastInDim S320000x128 ![] bcast_S_S320000x128 main_cst
  let main_v6 : IVec S320000x128 1 := cmpf .ogt main_arg0 main_v5
  let main_cst_1 : FVec F S_ .f32 := constant S_ .f32 0x7F800000#32
  let main_v7 : FVec F S320000x128 .f32 := broadcastInDim S320000x128 ![] bcast_S_S320000x128 main_cst_1
  let main_v8 : IVec S320000x128 1 := cmpf .olt main_arg0 main_v7
  let main_v9 : IVec S320000x128 1 := andi main_v6 main_v8
  let main_cst_2 : FVec F S_ .f32 := constant S_ .f32 0xFF800000#32
  let main_v10 : FVec F S128x32 .f32 := broadcastInDim S128x32 ![] bcast_S_S128x32 main_cst_2
  let main_v11 : IVec S128x32 1 := cmpf .ogt main_arg2 main_v10
  let main_cst_3 : FVec F S_ .f32 := constant S_ .f32 0x7F800000#32
  let main_v12 : FVec F S128x32 .f32 := broadcastInDim S128x32 ![] bcast_S_S128x32 main_cst_3
  let main_v13 : IVec S128x32 1 := cmpf .olt main_arg2 main_v12
  let main_v14 : IVec S128x32 1 := andi main_v11 main_v13
  let main_cst_4 : FVec F S_ .f32 := constant S_ .f32 0xFF800000#32
  let main_v15 : FVec F S32 .f32 := broadcastInDim S32 ![] bcast_S_S32 main_cst_4
  let main_v16 : IVec S32 1 := cmpf .ogt main_arg3 main_v15
  fn_part1 (F := F) main_arg3 main_arg4 main_arg5 main_v4 main_v9 main_v14 main_v16
-- ==== Pre_owners_in_range.lean ====
abbrev S320000x128 : Shape := ⟨2, ![320000, 128]⟩
abbrev S320000 : Shape := ⟨1, ![320000]⟩
abbrev S128x32 : Shape := ⟨2, ![128, 32]⟩
abbrev S32 : Shape := ⟨1, ![32]⟩
abbrev S32x3 : Shape := ⟨2, ![32, 3]⟩
abbrev S3 : Shape := ⟨1, ![3]⟩
abbrev S_ : Shape := ⟨0, ![]⟩

class Facts : Prop where
  bcast_S_S320000 : S_.BroadcastsInDim S320000 (![] : Fin 0 → Fin S320000.rank)

variable [Facts]

def fn {F : FTy → Type} [FloatOps F] (main_arg0 : FVec F S320000x128 .f32) (main_arg1 : IVec S320000 32) (main_arg2 : FVec F S128x32 .f32) (main_arg3 : FVec F S32 .f32) (main_arg4 : FVec F S32x3 .f32) (main_arg5 : FVec F S3 .f32) : IVec S320000 1 :=
  let main_c : IVec S_ 32 := constantI S_ 32 0#32
  let main_v0 : IVec S320000 32 := broadcastInDim S320000 ![] bcast_S_S320000 main_c
  let main_v1 : IVec S320000 1 := cmpi .sge main_arg1 main_v0
  let main_c_0 : IVec S_ 32 := constantI S_ 32 1000#32
  let main_v2 : IVec S320000 32 := broadcastInDim S320000 ![] bcast_S_S320000 main_c_0
  let main_v3 : IVec S320000 1 := cmpi .slt main_arg1 main_v2
  let main_v4 : IVec S320000 1 := andi main_v1 main_v3
  main_v4
-- ==== Kernel.lean ====
abbrev S320000x128 : Shape := ⟨2, ![320000, 128]⟩
abbrev S320000 : Shape := ⟨1, ![320000]⟩
abbrev S128x32 : Shape := ⟨2, ![128, 32]⟩
abbrev S32 : Shape := ⟨1, ![32]⟩
abbrev S32x3 : Shape := ⟨2, ![32, 3]⟩
abbrev S3 : Shape := ⟨1, ![3]⟩
abbrev S50x1x6400 : Shape := ⟨3, ![50, 1, 6400]⟩
abbrev S_ : Shape := ⟨0, ![]⟩
abbrev S32x8 : Shape := ⟨2, ![32, 8]⟩
abbrev S1 : Shape := ⟨1, ![1]⟩
abbrev S32x1 : Shape := ⟨2, ![32, 1]⟩
abbrev S8x1 : Shape := ⟨2, ![8, 1]⟩
abbrev S2 : Shape := ⟨1, ![2]⟩
abbrev S3x1008x128 : Shape := ⟨3, ![3, 1008, 128]⟩
abbrev S6400x128 : Shape := ⟨2, ![6400, 128]⟩
abbrev S1x1x6400 : Shape := ⟨3, ![1, 1, 6400]⟩
abbrev S1008x8 : Shape := ⟨2, ![1008, 8]⟩
abbrev S1x6400 : Shape := ⟨2, ![1, 6400]⟩
abbrev S32x6400 : Shape := ⟨2, ![32, 6400]⟩
abbrev S8x6400 : Shape := ⟨2, ![8, 6400]⟩
abbrev S1x1x1 : Shape := ⟨3, ![1, 1, 1]⟩
abbrev S16x1 : Shape := ⟨2, ![16, 1]⟩
abbrev S16x6400 : Shape := ⟨2, ![16, 6400]⟩
abbrev S16x8 : Shape := ⟨2, ![16, 8]⟩
abbrev S48x6400 : Shape := ⟨2, ![48, 6400]⟩
abbrev S48x128 : Shape := ⟨2, ![48, 128]⟩
abbrev S1x16x128 : Shape := ⟨3, ![1, 16, 128]⟩
abbrev S16x128 : Shape := ⟨2, ![16, 128]⟩
abbrev S1008x1 : Shape := ⟨2, ![1008, 1]⟩
abbrev S1008x128 : Shape := ⟨2, ![1008, 128]⟩
abbrev S1x1008x128 : Shape := ⟨3, ![1, 1008, 128]⟩
abbrev S3x1000x128 : Shape := ⟨3, ![3, 1000, 128]⟩
abbrev S1000x128x3 : Shape := ⟨3, ![1000, 128, 3]⟩
abbrev S1000x384 : Shape := ⟨2, ![1000, 384]⟩

abbrev nBuf : Space → Nat
  | .hbm => 25
  | .vmem => 10
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S128x32, .f32⟩
  | .hbm, ⟨3, _⟩ => ⟨S32, .f32⟩
  | .hbm, ⟨4, _⟩ => ⟨S32x3, .f32⟩
  | .hbm, ⟨5, _⟩ => ⟨S3, .f32⟩
  | .hbm, ⟨6, _⟩ => ⟨S50x1x6400, .i32⟩
  | .hbm, ⟨7, _⟩ => ⟨S_, .f32⟩
  | .hbm, ⟨8, _⟩ => ⟨S32x8, .f32⟩
  | .hbm, ⟨9, _⟩ => ⟨S_, .i32⟩
  | .hbm, ⟨10, _⟩ => ⟨S1, .i32⟩
  | .hbm, ⟨11, _⟩ => ⟨S32x8, .f32⟩
  | .hbm, ⟨12, _⟩ => ⟨S32x1, .f32⟩
  | .hbm, ⟨13, _⟩ => ⟨S_, .f32⟩
  | .hbm, ⟨14, _⟩ => ⟨S8x1, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S8x1, .f32⟩
  | .hbm, ⟨21, _⟩ => ⟨S3x1008x128, .f32⟩
  | .hbm, ⟨22, _⟩ => ⟨S3x1000x128, .f32⟩
  | .hbm, ⟨23, _⟩ => ⟨S1000x128x3, .f32⟩
  | .hbm, ⟨24, _⟩ => ⟨S1000x384, .f32⟩
  | .local _ .vmem, ⟨0, _⟩ => ⟨S6400x128, .f32⟩
  | .local _ .vmem, ⟨1, _⟩ => ⟨S6400x128, .f32⟩
  | .local _ .vmem, ⟨2, _⟩ => ⟨S1x1x6400, .i32⟩
  | .local _ .vmem, ⟨3, _⟩ => ⟨S1x1x6400, .i32⟩
  | .local _ .vmem, ⟨4, _⟩ => ⟨S128x32, .f32⟩
  | .local _ .vmem, ⟨5, _⟩ => ⟨S32x1, .f32⟩
  | .local _ .vmem, ⟨6, _⟩ => ⟨S32x8, .f32⟩
  | .local _ .vmem, ⟨7, _⟩ => ⟨S8x1, .f32⟩
  | .local _ .vmem, ⟨8, _⟩ => ⟨S3x1008x128, .f32⟩
  | .local _ .vmem, ⟨9, _⟩ => ⟨S1008x8, .f32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![50], ![false]⟩

@[reducible] def k0_t1_loop (v55 : BitVec 32) (v59 : BitVec 32) : Scf.Loop 32 :=
  let c0_i32_38 : BitVec 32 := 0#32
  let c0_i32_23 : BitVec 32 := 0#32
  let v61 : BitVec 1 := Scalar.cmpi .sgt v55 c0_i32_23
  let v62 : BitVec 32 := Scalar.extui v61
  let c0_i32_24 : BitVec 32 := 0#32
  let v63 : BitVec 1 := Scalar.cmpi .slt v55 c0_i32_24
  let v64 : BitVec 32 := Scalar.extui v63
  let v65 : BitVec 32 := Scalar.subi v62 v64
  let c16_i32 : BitVec 32 := 16#32
  let c0_i32_25 : BitVec 32 := 0#32
  let v66 : BitVec 1 := Scalar.cmpi .sgt c16_i32 c0_i32_25
  let v67 : BitVec 32 := Scalar.extui v66
  let c0_i32_26 : BitVec 32 := 0#32
  let v68 : BitVec 1 := Scalar.cmpi .slt c16_i32 c0_i32_26
  let v69 : BitVec 32 := Scalar.extui v68
  let v70 : BitVec 32 := Scalar.subi v67 v69
  let v71 : BitVec 1 := Scalar.cmpi .ne v65 v70
  let v72 : BitVec 32 := Scalar.remsi v55 c16_i32
  let c0_i32_27 : BitVec 32 := 0#32
  let v73 : BitVec 1 := Scalar.cmpi .ne v72 c0_i32_27
  let v74 : BitVec 1 := Scalar.andi v71 v73
  let v60 : BitVec 32 := Scalar.divsi v55 c16_i32
  let c1_i32 : BitVec 32 := 1#32
  let v75 : BitVec 32 := Scalar.subi v60 c1_i32
  let v76 : BitVec 32 := Scalar.select v74 v75 v60
  let c16_i32_28 : BitVec 32 := 16#32
  let v77 : BitVec 32 := Scalar.muli v76 c16_i32_28
  let v78 : BitVec 32 := Scalar.subi v59 v77
  let c0_i32_30 : BitVec 32 := 0#32
  let v80 : BitVec 1 := Scalar.cmpi .sgt v78 c0_i32_30
  let v81 : BitVec 32 := Scalar.extui v80
  let c0_i32_31 : BitVec 32 := 0#32
  let v82 : BitVec 1 := Scalar.cmpi .slt v78 c0_i32_31
  let v83 : BitVec 32 := Scalar.extui v82
  let v84 : BitVec 32 := Scalar.subi v81 v83
  let c16_i32_29 : BitVec 32 := 16#32
  let c0_i32_32 : BitVec 32 := 0#32
  let v85 : BitVec 1 := Scalar.cmpi .sgt c16_i32_29 c0_i32_32
  let v86 : BitVec 32 := Scalar.extui v85
  let c0_i32_33 : BitVec 32 := 0#32
  let v87 : BitVec 1 := Scalar.cmpi .slt c16_i32_29 c0_i32_33
  let v88 : BitVec 32 := Scalar.extui v87
  let v89 : BitVec 32 := Scalar.subi v86 v88
  let v90 : BitVec 1 := Scalar.cmpi .ne v84 v89
  let v91 : BitVec 32 := Scalar.remsi v78 c16_i32_29
  let c0_i32_34 : BitVec 32 := 0#32
  let v92 : BitVec 1 := Scalar.cmpi .ne v91 c0_i32_34
  let v93 : BitVec 1 := Scalar.andi v90 v92
  let v79 : BitVec 32 := Scalar.divsi v78 c16_i32_29
  let c1_i32_35 : BitVec 32 := 1#32
  let v94 : BitVec 32 := Scalar.subi v79 c1_i32_35
  let v95 : BitVec 32 := Scalar.select v93 v94 v79
  let c1_i32_36 : BitVec 32 := 1#32
  let v96 : BitVec 32 := Scalar.addi v95 c1_i32_36
  let v97 : BitVec 32 := Scalar.subi v96 c0_i32_38
  let c1_i32_39 : BitVec 32 := 1#32
  let v99 : BitVec 32 := Scalar.divsi v97 c1_i32_39
  let v100 : BitVec 32 := Scalar.muli v99 c1_i32_39
  let v101 : BitVec 32 := Scalar.addi c0_i32_38 v100
  let c1_i32_40 : BitVec 32 := 1#32
  ⟨c0_i32_38, v101, c1_i32_40⟩

def k0_off1 (v55 : BitVec 32) (v59 : BitVec 32) (k0_t1 : Fin (k0_t1_loop v55 v59).trips) : Fin 2 → Nat :=
  let c0_i32_23 : BitVec 32 := 0#32
  let v61 : BitVec 1 := Scalar.cmpi .sgt v55 c0_i32_23
  let v62 : BitVec 32 := Scalar.extui v61
  let c0_i32_24 : BitVec 32 := 0#32
  let v63 : BitVec 1 := Scalar.cmpi .slt v55 c0_i32_24
  let v64 : BitVec 32 := Scalar.extui v63
  let v65 : BitVec 32 := Scalar.subi v62 v64
  let c16_i32 : BitVec 32 := 16#32
  let c0_i32_25 : BitVec 32 := 0#32
  let v66 : BitVec 1 := Scalar.cmpi .sgt c16_i32 c0_i32_25
  let v67 : BitVec 32 := Scalar.extui v66
  let c0_i32_26 : BitVec 32 := 0#32
  let v68 : BitVec 1 := Scalar.cmpi .slt c16_i32 c0_i32_26
  let v69 : BitVec 32 := Scalar.extui v68
  let v70 : BitVec 32 := Scalar.subi v67 v69
  let v71 : BitVec 1 := Scalar.cmpi .ne v65 v70
  let v72 : BitVec 32 := Scalar.remsi v55 c16_i32
  let c0_i32_27 : BitVec 32 := 0#32
  let v73 : BitVec 1 := Scalar.cmpi .ne v72 c0_i32_27
  let v74 : BitVec 1 := Scalar.andi v71 v73
  let v60 : BitVec 32 := Scalar.divsi v55 c16_i32
  let c1_i32 : BitVec 32 := 1#32
  let v75 : BitVec 32 := Scalar.subi v60 c1_i32
  let v76 : BitVec 32 := Scalar.select v74 v75 v60
  let c16_i32_28 : BitVec 32 := 16#32
  let v77 : BitVec 32 := Scalar.muli v76 c16_i32_28
  let c0_i32_38 : BitVec 32 := 0#32
  let c1_i32_40 : BitVec 32 := 1#32
  let arg9 : BitVec 32 := Scf.iv c0_i32_38 c1_i32_40 k0_t1
  let c16_i32_43 : BitVec 32 := 16#32
  let v105 : BitVec 32 := Scalar.muli arg9 c16_i32_43
  let v106 : BitVec 32 := Scalar.addi v77 v105
  let v116 : Index := Scalar.indexCast v106
  let c0_45 : Index := 0#32
  ![v116.toNat, 0]
def k0_off2 (v55 : BitVec 32) (v59 : BitVec 32) (k0_t1 : Fin (k0_t1_loop v55 v59).trips) : Fin 3 → Nat :=
  let c0_48 : Index := 0#32
  let c0_i32_23 : BitVec 32 := 0#32
  let v61 : BitVec 1 := Scalar.cmpi .sgt v55 c0_i32_23
  let v62 : BitVec 32 := Scalar.extui v61
  let c0_i32_24 : BitVec 32 := 0#32
  let v63 : BitVec 1 := Scalar.cmpi .slt v55 c0_i32_24
  let v64 : BitVec 32 := Scalar.extui v63
  let v65 : BitVec 32 := Scalar.subi v62 v64
  let c16_i32 : BitVec 32 := 16#32
  let c0_i32_25 : BitVec 32 := 0#32
  let v66 : BitVec 1 := Scalar.cmpi .sgt c16_i32 c0_i32_25
  let v67 : BitVec 32 := Scalar.extui v66
  let c0_i32_26 : BitVec 32 := 0#32
  let v68 : BitVec 1 := Scalar.cmpi .slt c16_i32 c0_i32_26
  let v69 : BitVec 32 := Scalar.extui v68
  let v70 : BitVec 32 := Scalar.subi v67 v69
  let v71 : BitVec 1 := Scalar.cmpi .ne v65 v70
  let v72 : BitVec 32 := Scalar.remsi v55 c16_i32
  let c0_i32_27 : BitVec 32 := 0#32
  let v73 : BitVec 1 := Scalar.cmpi .ne v72 c0_i32_27
  let v74 : BitVec 1 := Scalar.andi v71 v73
  let v60 : BitVec 32 := Scalar.divsi v55 c16_i32
  let c1_i32 : BitVec 32 := 1#32
  let v75 : BitVec 32 := Scalar.subi v60 c1_i32
  let v76 : BitVec 32 := Scalar.select v74 v75 v60
  let c16_i32_28 : BitVec 32 := 16#32
  let v77 : BitVec 32 := Scalar.muli v76 c16_i32_28
  let c0_i32_38 : BitVec 32 := 0#32
  let c1_i32_40 : BitVec 32 := 1#32
  let arg9 : BitVec 32 := Scf.iv c0_i32_38 c1_i32_40 k0_t1
  let c16_i32_43 : BitVec 32 := 16#32
  let v105 : BitVec 32 := Scalar.muli arg9 c16_i32_43
  let v106 : BitVec 32 := Scalar.addi v77 v105
  let v134 : Index := Scalar.indexCast v106
  let c0_49 : Index := 0#32
  ![0, v134.toNat, 0]
def k0_off3 (v55 : BitVec 32) (v59 : BitVec 32) (k0_t1 : Fin (k0_t1_loop v55 v59).trips) : Fin 3 → Nat :=
  let c1 : Index := 1#32
  let c0_i32_23 : BitVec 32 := 0#32
  let v61 : BitVec 1 := Scalar.cmpi .sgt v55 c0_i32_23
  let v62 : BitVec 32 := Scalar.extui v61
  let c0_i32_24 : BitVec 32 := 0#32
  let v63 : BitVec 1 := Scalar.cmpi .slt v55 c0_i32_24
  let v64 : BitVec 32 := Scalar.extui v63
  let v65 : BitVec 32 := Scalar.subi v62 v64
  let c16_i32 : BitVec 32 := 16#32
  let c0_i32_25 : BitVec 32 := 0#32
  let v66 : BitVec 1 := Scalar.cmpi .sgt c16_i32 c0_i32_25
  let v67 : BitVec 32 := Scalar.extui v66
  let c0_i32_26 : BitVec 32 := 0#32
  let v68 : BitVec 1 := Scalar.cmpi .slt c16_i32 c0_i32_26
  let v69 : BitVec 32 := Scalar.extui v68
  let v70 : BitVec 32 := Scalar.subi v67 v69
  let v71 : BitVec 1 := Scalar.cmpi .ne v65 v70
  let v72 : BitVec 32 := Scalar.remsi v55 c16_i32
  let c0_i32_27 : BitVec 32 := 0#32
  let v73 : BitVec 1 := Scalar.cmpi .ne v72 c0_i32_27
  let v74 : BitVec 1 := Scalar.andi v71 v73
  let v60 : BitVec 32 := Scalar.divsi v55 c16_i32
  let c1_i32 : BitVec 32 := 1#32
  let v75 : BitVec 32 := Scalar.subi v60 c1_i32
  let v76 : BitVec 32 := Scalar.select v74 v75 v60
  let c16_i32_28 : BitVec 32 := 16#32
  let v77 : BitVec 32 := Scalar.muli v76 c16_i32_28
  let c0_i32_38 : BitVec 32 := 0#32
  let c1_i32_40 : BitVec 32 := 1#32
  let arg9 : BitVec 32 := Scf.iv c0_i32_38 c1_i32_40 k0_t1
  let c16_i32_43 : BitVec 32 := 16#32
  let v105 : BitVec 32 := Scalar.muli arg9 c16_i32_43
  let v106 : BitVec 32 := Scalar.addi v77 v105
  let v143 : Index := Scalar.indexCast v106
  let c0_52 : Index := 0#32
  ![1, v143.toNat, 0]
def k0_off4 (v55 : BitVec 32) (v59 : BitVec 32) (k0_t1 : Fin (k0_t1_loop v55 v59).trips) : Fin 3 → Nat :=
  let c2 : Index := 2#32
  let c0_i32_23 : BitVec 32 := 0#32
  let v61 : BitVec 1 := Scalar.cmpi .sgt v55 c0_i32_23
  let v62 : BitVec 32 := Scalar.extui v61
  let c0_i32_24 : BitVec 32 := 0#32
  let v63 : BitVec 1 := Scalar.cmpi .slt v55 c0_i32_24
  let v64 : BitVec 32 := Scalar.extui v63
  let v65 : BitVec 32 := Scalar.subi v62 v64
  let c16_i32 : BitVec 32 := 16#32
  let c0_i32_25 : BitVec 32 := 0#32
  let v66 : BitVec 1 := Scalar.cmpi .sgt c16_i32 c0_i32_25
  let v67 : BitVec 32 := Scalar.extui v66
  let c0_i32_26 : BitVec 32 := 0#32
  let v68 : BitVec 1 := Scalar.cmpi .slt c16_i32 c0_i32_26
  let v69 : BitVec 32 := Scalar.extui v68
  let v70 : BitVec 32 := Scalar.subi v67 v69
  let v71 : BitVec 1 := Scalar.cmpi .ne v65 v70
  let v72 : BitVec 32 := Scalar.remsi v55 c16_i32
  let c0_i32_27 : BitVec 32 := 0#32
  let v73 : BitVec 1 := Scalar.cmpi .ne v72 c0_i32_27
  let v74 : BitVec 1 := Scalar.andi v71 v73
  let v60 : BitVec 32 := Scalar.divsi v55 c16_i32
  let c1_i32 : BitVec 32 := 1#32
  let v75 : BitVec 32 := Scalar.subi v60 c1_i32
  let v76 : BitVec 32 := Scalar.select v74 v75 v60
  let c16_i32_28 : BitVec 32 := 16#32
  let v77 : BitVec 32 := Scalar.muli v76 c16_i32_28
  let c0_i32_38 : BitVec 32 := 0#32
  let c1_i32_40 : BitVec 32 := 1#32
  let arg9 : BitVec 32 := Scf.iv c0_i32_38 c1_i32_40 k0_t1
  let c16_i32_43 : BitVec 32 := 16#32
  let v105 : BitVec 32 := Scalar.muli arg9 c16_i32_43
  let v106 : BitVec 32 := Scalar.addi v77 v105
  let v152 : Index := Scalar.indexCast v106
  let c0_55 : Index := 0#32
  ![2, v152.toNat, 0]
@[reducible] def k0_t2_loop (v55 : BitVec 32) (v59 : BitVec 32) : Scf.Loop 32 :=
  let c0_i32_38 : BitVec 32 := 0#32
  let c0_i32_23 : BitVec 32 := 0#32
  let v61 : BitVec 1 := Scalar.cmpi .sgt v55 c0_i32_23
  let v62 : BitVec 32 := Scalar.extui v61
  let c0_i32_24 : BitVec 32 := 0#32
  let v63 : BitVec 1 := Scalar.cmpi .slt v55 c0_i32_24
  let v64 : BitVec 32 := Scalar.extui v63
  let v65 : BitVec 32 := Scalar.subi v62 v64
  let c16_i32 : BitVec 32 := 16#32
  let c0_i32_25 : BitVec 32 := 0#32
  let v66 : BitVec 1 := Scalar.cmpi .sgt c16_i32 c0_i32_25
  let v67 : BitVec 32 := Scalar.extui v66
  let c0_i32_26 : BitVec 32 := 0#32
  let v68 : BitVec 1 := Scalar.cmpi .slt c16_i32 c0_i32_26
  let v69 : BitVec 32 := Scalar.extui v68
  let v70 : BitVec 32 := Scalar.subi v67 v69
  let v71 : BitVec 1 := Scalar.cmpi .ne v65 v70
  let v72 : BitVec 32 := Scalar.remsi v55 c16_i32
  let c0_i32_27 : BitVec 32 := 0#32
  let v73 : BitVec 1 := Scalar.cmpi .ne v72 c0_i32_27
  let v74 : BitVec 1 := Scalar.andi v71 v73
  let v60 : BitVec 32 := Scalar.divsi v55 c16_i32
  let c1_i32 : BitVec 32 := 1#32
  let v75 : BitVec 32 := Scalar.subi v60 c1_i32
  let v76 : BitVec 32 := Scalar.select v74 v75 v60
  let c16_i32_28 : BitVec 32 := 16#32
  let v77 : BitVec 32 := Scalar.muli v76 c16_i32_28
  let v78 : BitVec 32 := Scalar.subi v59 v77
  let c0_i32_30 : BitVec 32 := 0#32
  let v80 : BitVec 1 := Scalar.cmpi .sgt v78 c0_i32_30
  let v81 : BitVec 32 := Scalar.extui v80
  let c0_i32_31 : BitVec 32 := 0#32
  let v82 : BitVec 1 := Scalar.cmpi .slt v78 c0_i32_31
  let v83 : BitVec 32 := Scalar.extui v82
  let v84 : BitVec 32 := Scalar.subi v81 v83
  let c16_i32_29 : BitVec 32 := 16#32
  let c0_i32_32 : BitVec 32 := 0#32
  let v85 : BitVec 1 := Scalar.cmpi .sgt c16_i32_29 c0_i32_32
  let v86 : BitVec 32 := Scalar.extui v85
  let c0_i32_33 : BitVec 32 := 0#32
  let v87 : BitVec 1 := Scalar.cmpi .slt c16_i32_29 c0_i32_33
  let v88 : BitVec 32 := Scalar.extui v87
  let v89 : BitVec 32 := Scalar.subi v86 v88
  let v90 : BitVec 1 := Scalar.cmpi .ne v84 v89
  let v91 : BitVec 32 := Scalar.remsi v78 c16_i32_29
  let c0_i32_34 : BitVec 32 := 0#32
  let v92 : BitVec 1 := Scalar.cmpi .ne v91 c0_i32_34
  let v93 : BitVec 1 := Scalar.andi v90 v92
  let v79 : BitVec 32 := Scalar.divsi v78 c16_i32_29
  let c1_i32_35 : BitVec 32 := 1#32
  let v94 : BitVec 32 := Scalar.subi v79 c1_i32_35
  let v95 : BitVec 32 := Scalar.select v93 v94 v79
  let c1_i32_36 : BitVec 32 := 1#32
  let v96 : BitVec 32 := Scalar.addi v95 c1_i32_36
  let v97 : BitVec 32 := Scalar.subi v96 c0_i32_38
  let c1_i32_39 : BitVec 32 := 1#32
  let v99 : BitVec 32 := Scalar.divsi v97 c1_i32_39
  let v100 : BitVec 32 := Scalar.muli v99 c1_i32_39
  let v101 : BitVec 32 := Scalar.addi c0_i32_38 v100
  let v98 : BitVec 32 := Scalar.addi c0_i32_38 v97
  let c1_i32_41 : BitVec 32 := 1#32
  ⟨v101, v98, c1_i32_41⟩
def k0_off5 (v55 : BitVec 32) (v59 : BitVec 32) (k0_t2 : Fin (k0_t2_loop v55 v59).trips) : Fin 2 → Nat :=
  let c0_i32_23 : BitVec 32 := 0#32
  let v61 : BitVec 1 := Scalar.cmpi .sgt v55 c0_i32_23
  let v62 : BitVec 32 := Scalar.extui v61
  let c0_i32_24 : BitVec 32 := 0#32
  let v63 : BitVec 1 := Scalar.cmpi .slt v55 c0_i32_24
  let v64 : BitVec 32 := Scalar.extui v63
  let v65 : BitVec 32 := Scalar.subi v62 v64
  let c16_i32 : BitVec 32 := 16#32
  let c0_i32_25 : BitVec 32 := 0#32
  let v66 : BitVec 1 := Scalar.cmpi .sgt c16_i32 c0_i32_25
  let v67 : BitVec 32 := Scalar.extui v66
  let c0_i32_26 : BitVec 32 := 0#32
  let v68 : BitVec 1 := Scalar.cmpi .slt c16_i32 c0_i32_26
  let v69 : BitVec 32 := Scalar.extui v68
  let v70 : BitVec 32 := Scalar.subi v67 v69
  let v71 : BitVec 1 := Scalar.cmpi .ne v65 v70
  let v72 : BitVec 32 := Scalar.remsi v55 c16_i32
  let c0_i32_27 : BitVec 32 := 0#32
  let v73 : BitVec 1 := Scalar.cmpi .ne v72 c0_i32_27
  let v74 : BitVec 1 := Scalar.andi v71 v73
  let v60 : BitVec 32 := Scalar.divsi v55 c16_i32
  let c1_i32 : BitVec 32 := 1#32
  let v75 : BitVec 32 := Scalar.subi v60 c1_i32
  let v76 : BitVec 32 := Scalar.select v74 v75 v60
  let c16_i32_28 : BitVec 32 := 16#32
  let v77 : BitVec 32 := Scalar.muli v76 c16_i32_28
  let c0_i32_38 : BitVec 32 := 0#32
  let v78 : BitVec 32 := Scalar.subi v59 v77
  let c0_i32_30 : BitVec 32 := 0#32
  let v80 : BitVec 1 := Scalar.cmpi .sgt v78 c0_i32_30
  let v81 : BitVec 32 := Scalar.extui v80
  let c0_i32_31 : BitVec 32 := 0#32
  let v82 : BitVec 1 := Scalar.cmpi .slt v78 c0_i32_31
  let v83 : BitVec 32 := Scalar.extui v82
  let v84 : BitVec 32 := Scalar.subi v81 v83
  let c16_i32_29 : BitVec 32 := 16#32
  let c0_i32_32 : BitVec 32 := 0#32
  let v85 : BitVec 1 := Scalar.cmpi .sgt c16_i32_29 c0_i32_32
  let v86 : BitVec 32 := Scalar.extui v85
  let c0_i32_33 : BitVec 32 := 0#32
  let v87 : BitVec 1 := Scalar.cmpi .slt c16_i32_29 c0_i32_33
  let v88 : BitVec 32 := Scalar.extui v87
  let v89 : BitVec 32 := Scalar.subi v86 v88
  let v90 : BitVec 1 := Scalar.cmpi .ne v84 v89
  let v91 : BitVec 32 := Scalar.remsi v78 c16_i32_29
  let c0_i32_34 : BitVec 32 := 0#32
  let v92 : BitVec 1 := Scalar.cmpi .ne v91 c0_i32_34
  let v93 : BitVec 1 := Scalar.andi v90 v92
  let v79 : BitVec 32 := Scalar.divsi v78 c16_i32_29
  let c1_i32_35 : BitVec 32 := 1#32
  let v94 : BitVec 32 := Scalar.subi v79 c1_i32_35
  let v95 : BitVec 32 := Scalar.select v93 v94 v79
  let c1_i32_36 : BitVec 32 := 1#32
  let v96 : BitVec 32 := Scalar.addi v95 c1_i32_36
  let v97 : BitVec 32 := Scalar.subi v96 c0_i32_38
  let c1_i32_39 : BitVec 32 := 1#32
  let v99 : BitVec 32 := Scalar.divsi v97 c1_i32_39
  let v100 : BitVec 32 := Scalar.muli v99 c1_i32_39
  let v101 : BitVec 32 := Scalar.addi c0_i32_38 v100
  let c1_i32_41 : BitVec 32 := 1#32
  let arg9 : BitVec 32 := Scf.iv v101 c1_i32_41 k0_t2
  let c16_i32_43 : BitVec 32 := 16#32
  let v105 : BitVec 32 := Scalar.muli arg9 c16_i32_43
  let v106 : BitVec 32 := Scalar.addi v77 v105
  let v116 : Index := Scalar.indexCast v106
  let c0_45 : Index := 0#32
  ![v116.toNat, 0]
def k0_off6 (v55 : BitVec 32) (v59 : BitVec 32) (k0_t2 : Fin (k0_t2_loop v55 v59).trips) : Fin 3 → Nat :=
  let c0_48 : Index := 0#32
  let c0_i32_23 : BitVec 32 := 0#32
  let v61 : BitVec 1 := Scalar.cmpi .sgt v55 c0_i32_23
  let v62 : BitVec 32 := Scalar.extui v61
  let c0_i32_24 : BitVec 32 := 0#32
  let v63 : BitVec 1 := Scalar.cmpi .slt v55 c0_i32_24
  let v64 : BitVec 32 := Scalar.extui v63
  let v65 : BitVec 32 := Scalar.subi v62 v64
  let c16_i32 : BitVec 32 := 16#32
  let c0_i32_25 : BitVec 32 := 0#32
  let v66 : BitVec 1 := Scalar.cmpi .sgt c16_i32 c0_i32_25
  let v67 : BitVec 32 := Scalar.extui v66
  let c0_i32_26 : BitVec 32 := 0#32
  let v68 : BitVec 1 := Scalar.cmpi .slt c16_i32 c0_i32_26
  let v69 : BitVec 32 := Scalar.extui v68
  let v70 : BitVec 32 := Scalar.subi v67 v69
  let v71 : BitVec 1 := Scalar.cmpi .ne v65 v70
  let v72 : BitVec 32 := Scalar.remsi v55 c16_i32
  let c0_i32_27 : BitVec 32 := 0#32
  let v73 : BitVec 1 := Scalar.cmpi .ne v72 c0_i32_27
  let v74 : BitVec 1 := Scalar.andi v71 v73
  let v60 : BitVec 32 := Scalar.divsi v55 c16_i32
  let c1_i32 : BitVec 32 := 1#32
  let v75 : BitVec 32 := Scalar.subi v60 c1_i32
  let v76 : BitVec 32 := Scalar.select v74 v75 v60
  let c16_i32_28 : BitVec 32 := 16#32
  let v77 : BitVec 32 := Scalar.muli v76 c16_i32_28
  let c0_i32_38 : BitVec 32 := 0#32
  let v78 : BitVec 32 := Scalar.subi v59 v77
  let c0_i32_30 : BitVec 32 := 0#32
  let v80 : BitVec 1 := Scalar.cmpi .sgt v78 c0_i32_30
  let v81 : BitVec 32 := Scalar.extui v80
  let c0_i32_31 : BitVec 32 := 0#32
  let v82 : BitVec 1 := Scalar.cmpi .slt v78 c0_i32_31
  let v83 : BitVec 32 := Scalar.extui v82
  let v84 : BitVec 32 := Scalar.subi v81 v83
  let c16_i32_29 : BitVec 32 := 16#32
  let c0_i32_32 : BitVec 32 := 0#32
  let v85 : BitVec 1 := Scalar.cmpi .sgt c16_i32_29 c0_i32_32
  let v86 : BitVec 32 := Scalar.extui v85
  let c0_i32_33 : BitVec 32 := 0#32
  let v87 : BitVec 1 := Scalar.cmpi .slt c16_i32_29 c0_i32_33
  let v88 : BitVec 32 := Scalar.extui v87
  let v89 : BitVec 32 := Scalar.subi v86 v88
  let v90 : BitVec 1 := Scalar.cmpi .ne v84 v89
  let v91 : BitVec 32 := Scalar.remsi v78 c16_i32_29
  let c0_i32_34 : BitVec 32 := 0#32
  let v92 : BitVec 1 := Scalar.cmpi .ne v91 c0_i32_34
  let v93 : BitVec 1 := Scalar.andi v90 v92
  let v79 : BitVec 32 := Scalar.divsi v78 c16_i32_29
  let c1_i32_35 : BitVec 32 := 1#32
  let v94 : BitVec 32 := Scalar.subi v79 c1_i32_35
  let v95 : BitVec 32 := Scalar.select v93 v94 v79
  let c1_i32_36 : BitVec 32 := 1#32
  let v96 : BitVec 32 := Scalar.addi v95 c1_i32_36
  let v97 : BitVec 32 := Scalar.subi v96 c0_i32_38
  let c1_i32_39 : BitVec 32 := 1#32
  let v99 : BitVec 32 := Scalar.divsi v97 c1_i32_39
  let v100 : BitVec 32 := Scalar.muli v99 c1_i32_39
  let v101 : BitVec 32 := Scalar.addi c0_i32_38 v100
  let c1_i32_41 : BitVec 32 := 1#32
  let arg9 : BitVec 32 := Scf.iv v101 c1_i32_41 k0_t2
  let c16_i32_43 : BitVec 32 := 16#32
  let v105 : BitVec 32 := Scalar.muli arg9 c16_i32_43
  let v106 : BitVec 32 := Scalar.addi v77 v105
  let v134 : Index := Scalar.indexCast v106
  let c0_49 : Index := 0#32
  ![0, v134.toNat, 0]
def k0_off7 (v55 : BitVec 32) (v59 : BitVec 32) (k0_t2 : Fin (k0_t2_loop v55 v59).trips) : Fin 3 → Nat :=
  let c1 : Index := 1#32
  let c0_i32_23 : BitVec 32 := 0#32
  let v61 : BitVec 1 := Scalar.cmpi .sgt v55 c0_i32_23
  let v62 : BitVec 32 := Scalar.extui v61
  let c0_i32_24 : BitVec 32 := 0#32
  let v63 : BitVec 1 := Scalar.cmpi .slt v55 c0_i32_24
  let v64 : BitVec 32 := Scalar.extui v63
  let v65 : BitVec 32 := Scalar.subi v62 v64
  let c16_i32 : BitVec 32 := 16#32
  let c0_i32_25 : BitVec 32 := 0#32
  let v66 : BitVec 1 := Scalar.cmpi .sgt c16_i32 c0_i32_25
  let v67 : BitVec 32 := Scalar.extui v66
  let c0_i32_26 : BitVec 32 := 0#32
  let v68 : BitVec 1 := Scalar.cmpi .slt c16_i32 c0_i32_26
  let v69 : BitVec 32 := Scalar.extui v68
  let v70 : BitVec 32 := Scalar.subi v67 v69
  let v71 : BitVec 1 := Scalar.cmpi .ne v65 v70
  let v72 : BitVec 32 := Scalar.remsi v55 c16_i32
  let c0_i32_27 : BitVec 32 := 0#32
  let v73 : BitVec 1 := Scalar.cmpi .ne v72 c0_i32_27
  let v74 : BitVec 1 := Scalar.andi v71 v73
  let v60 : BitVec 32 := Scalar.divsi v55 c16_i32
  let c1_i32 : BitVec 32 := 1#32
  let v75 : BitVec 32 := Scalar.subi v60 c1_i32
  let v76 : BitVec 32 := Scalar.select v74 v75 v60
  let c16_i32_28 : BitVec 32 := 16#32
  let v77 : BitVec 32 := Scalar.muli v76 c16_i32_28
  let c0_i32_38 : BitVec 32 := 0#32
  let v78 : BitVec 32 := Scalar.subi v59 v77
  let c0_i32_30 : BitVec 32 := 0#32
  let v80 : BitVec 1 := Scalar.cmpi .sgt v78 c0_i32_30
  let v81 : BitVec 32 := Scalar.extui v80
  let c0_i32_31 : BitVec 32 := 0#32
  let v82 : BitVec 1 := Scalar.cmpi .slt v78 c0_i32_31
  let v83 : BitVec 32 := Scalar.extui v82
  let v84 : BitVec 32 := Scalar.subi v81 v83
  let c16_i32_29 : BitVec 32 := 16#32
  let c0_i32_32 : BitVec 32 := 0#32
  let v85 : BitVec 1 := Scalar.cmpi .sgt c16_i32_29 c0_i32_32
  let v86 : BitVec 32 := Scalar.extui v85
  let c0_i32_33 : BitVec 32 := 0#32
  let v87 : BitVec 1 := Scalar.cmpi .slt c16_i32_29 c0_i32_33
  let v88 : BitVec 32 := Scalar.extui v87
  let v89 : BitVec 32 := Scalar.subi v86 v88
  let v90 : BitVec 1 := Scalar.cmpi .ne v84 v89
  let v91 : BitVec 32 := Scalar.remsi v78 c16_i32_29
  let c0_i32_34 : BitVec 32 := 0#32
  let v92 : BitVec 1 := Scalar.cmpi .ne v91 c0_i32_34
  let v93 : BitVec 1 := Scalar.andi v90 v92
  let v79 : BitVec 32 := Scalar.divsi v78 c16_i32_29
  let c1_i32_35 : BitVec 32 := 1#32
  let v94 : BitVec 32 := Scalar.subi v79 c1_i32_35
  let v95 : BitVec 32 := Scalar.select v93 v94 v79
  let c1_i32_36 : BitVec 32 := 1#32
  let v96 : BitVec 32 := Scalar.addi v95 c1_i32_36
  let v97 : BitVec 32 := Scalar.subi v96 c0_i32_38
  let c1_i32_39 : BitVec 32 := 1#32
  let v99 : BitVec 32 := Scalar.divsi v97 c1_i32_39
  let v100 : BitVec 32 := Scalar.muli v99 c1_i32_39
  let v101 : BitVec 32 := Scalar.addi c0_i32_38 v100
  let c1_i32_41 : BitVec 32 := 1#32
  let arg9 : BitVec 32 := Scf.iv v101 c1_i32_41 k0_t2
  let c16_i32_43 : BitVec 32 := 16#32
  let v105 : BitVec 32 := Scalar.muli arg9 c16_i32_43
  let v106 : BitVec 32 := Scalar.addi v77 v105
  let v143 : Index := Scalar.indexCast v106
  let c0_52 : Index := 0#32
  ![1, v143.toNat, 0]
def k0_off8 (v55 : BitVec 32) (v59 : BitVec 32) (k0_t2 : Fin (k0_t2_loop v55 v59).trips) : Fin 3 → Nat :=
  let c2 : Index := 2#32
  let c0_i32_23 : BitVec 32 := 0#32
  let v61 : BitVec 1 := Scalar.cmpi .sgt v55 c0_i32_23
  let v62 : BitVec 32 := Scalar.extui v61
  let c0_i32_24 : BitVec 32 := 0#32
  let v63 : BitVec 1 := Scalar.cmpi .slt v55 c0_i32_24
  let v64 : BitVec 32 := Scalar.extui v63
  let v65 : BitVec 32 := Scalar.subi v62 v64
  let c16_i32 : BitVec 32 := 16#32
  let c0_i32_25 : BitVec 32 := 0#32
  let v66 : BitVec 1 := Scalar.cmpi .sgt c16_i32 c0_i32_25
  let v67 : BitVec 32 := Scalar.extui v66
  let c0_i32_26 : BitVec 32 := 0#32
  let v68 : BitVec 1 := Scalar.cmpi .slt c16_i32 c0_i32_26
  let v69 : BitVec 32 := Scalar.extui v68
  let v70 : BitVec 32 := Scalar.subi v67 v69
  let v71 : BitVec 1 := Scalar.cmpi .ne v65 v70
  let v72 : BitVec 32 := Scalar.remsi v55 c16_i32
  let c0_i32_27 : BitVec 32 := 0#32
  let v73 : BitVec 1 := Scalar.cmpi .ne v72 c0_i32_27
  let v74 : BitVec 1 := Scalar.andi v71 v73
  let v60 : BitVec 32 := Scalar.divsi v55 c16_i32
  let c1_i32 : BitVec 32 := 1#32
  let v75 : BitVec 32 := Scalar.subi v60 c1_i32
  let v76 : BitVec 32 := Scalar.select v74 v75 v60
  let c16_i32_28 : BitVec 32 := 16#32
  let v77 : BitVec 32 := Scalar.muli v76 c16_i32_28
  let c0_i32_38 : BitVec 32 := 0#32
  let v78 : BitVec 32 := Scalar.subi v59 v77
  let c0_i32_30 : BitVec 32 := 0#32
  let v80 : BitVec 1 := Scalar.cmpi .sgt v78 c0_i32_30
  let v81 : BitVec 32 := Scalar.extui v80
  let c0_i32_31 : BitVec 32 := 0#32
  let v82 : BitVec 1 := Scalar.cmpi .slt v78 c0_i32_31
  let v83 : BitVec 32 := Scalar.extui v82
  let v84 : BitVec 32 := Scalar.subi v81 v83
  let c16_i32_29 : BitVec 32 := 16#32
  let c0_i32_32 : BitVec 32 := 0#32
  let v85 : BitVec 1 := Scalar.cmpi .sgt c16_i32_29 c0_i32_32
  let v86 : BitVec 32 := Scalar.extui v85
  let c0_i32_33 : BitVec 32 := 0#32
  let v87 : BitVec 1 := Scalar.cmpi .slt c16_i32_29 c0_i32_33
  let v88 : BitVec 32 := Scalar.extui v87
  let v89 : BitVec 32 := Scalar.subi v86 v88
  let v90 : BitVec 1 := Scalar.cmpi .ne v84 v89
  let v91 : BitVec 32 := Scalar.remsi v78 c16_i32_29
  let c0_i32_34 : BitVec 32 := 0#32
  let v92 : BitVec 1 := Scalar.cmpi .ne v91 c0_i32_34
  let v93 : BitVec 1 := Scalar.andi v90 v92
  let v79 : BitVec 32 := Scalar.divsi v78 c16_i32_29
  let c1_i32_35 : BitVec 32 := 1#32
  let v94 : BitVec 32 := Scalar.subi v79 c1_i32_35
  let v95 : BitVec 32 := Scalar.select v93 v94 v79
  let c1_i32_36 : BitVec 32 := 1#32
  let v96 : BitVec 32 := Scalar.addi v95 c1_i32_36
  let v97 : BitVec 32 := Scalar.subi v96 c0_i32_38
  let c1_i32_39 : BitVec 32 := 1#32
  let v99 : BitVec 32 := Scalar.divsi v97 c1_i32_39
  let v100 : BitVec 32 := Scalar.muli v99 c1_i32_39
  let v101 : BitVec 32 := Scalar.addi c0_i32_38 v100
  let c1_i32_41 : BitVec 32 := 1#32
  let arg9 : BitVec 32 := Scf.iv v101 c1_i32_41 k0_t2
  let c16_i32_43 : BitVec 32 := 16#32
  let v105 : BitVec 32 := Scalar.muli arg9 c16_i32_43
  let v106 : BitVec 32 := Scalar.addi v77 v105
  let v152 : Index := Scalar.indexCast v106
  let c0_55 : Index := 0#32
  ![2, v152.toNat, 0]

def k0_chk1 (v55 : BitVec 32) (v59 : BitVec 32) : Prop :=
  ((k0_t1_loop v55 v59).OK) ∧
  (∀ k0_t1 : Fin (k0_t1_loop v55 v59).trips, ∀ a, (k0_off1 v55 v59 k0_t1) a + S16x8.size a ≤ S1008x8.size a) ∧
  (∀ k0_t1 : Fin (k0_t1_loop v55 v59).trips, ∀ a, (k0_off2 v55 v59 k0_t1) a + S1x16x128.size a ≤ S3x1008x128.size a) ∧
  (∀ k0_t1 : Fin (k0_t1_loop v55 v59).trips, ∀ a, (k0_off3 v55 v59 k0_t1) a + S1x16x128.size a ≤ S3x1008x128.size a) ∧
  (∀ k0_t1 : Fin (k0_t1_loop v55 v59).trips, ∀ a, (k0_off4 v55 v59 k0_t1) a + S1x16x128.size a ≤ S3x1008x128.size a) ∧
  ((k0_t2_loop v55 v59).OK) ∧
  (∀ k0_t2 : Fin (k0_t2_loop v55 v59).trips, ∀ a, (k0_off5 v55 v59 k0_t2) a + S16x8.size a ≤ S1008x8.size a) ∧
  (∀ k0_t2 : Fin (k0_t2_loop v55 v59).trips, ∀ a, (k0_off6 v55 v59 k0_t2) a + S1x16x128.size a ≤ S3x1008x128.size a) ∧
  (∀ k0_t2 : Fin (k0_t2_loop v55 v59).trips, ∀ a, (k0_off7 v55 v59 k0_t2) a + S1x16x128.size a ≤ S3x1008x128.size a) ∧
  (∀ k0_t2 : Fin (k0_t2_loop v55 v59).trips, ∀ a, (k0_off8 v55 v59 k0_t2) a + S1x16x128.size a ≤ S3x1008x128.size a)
theorem k0_t1_ok : ∀ (v55 : BitVec 32) (v59 : BitVec 32) (k0_hw1 : k0_chk1 v55 v59), (k0_t1_loop v55 v59).OK := fun v55 v59 k0_hw1 => k0_hw1.1
theorem k0_off1_inb : ∀ (v55 : BitVec 32) (v59 : BitVec 32) (k0_hw1 : k0_chk1 v55 v59) (k0_t1 : Fin (k0_t1_loop v55 v59).trips), ∀ a, (k0_off1 v55 v59 k0_t1) a + S16x8.size a ≤ S1008x8.size a := fun v55 v59 k0_hw1 k0_t1 => k0_hw1.2.1 k0_t1
theorem k0_off2_inb : ∀ (v55 : BitVec 32) (v59 : BitVec 32) (k0_hw1 : k0_chk1 v55 v59) (k0_t1 : Fin (k0_t1_loop v55 v59).trips), ∀ a, (k0_off2 v55 v59 k0_t1) a + S1x16x128.size a ≤ S3x1008x128.size a := fun v55 v59 k0_hw1 k0_t1 => k0_hw1.2.2.1 k0_t1
theorem k0_off3_inb : ∀ (v55 : BitVec 32) (v59 : BitVec 32) (k0_hw1 : k0_chk1 v55 v59) (k0_t1 : Fin (k0_t1_loop v55 v59).trips), ∀ a, (k0_off3 v55 v59 k0_t1) a + S1x16x128.size a ≤ S3x1008x128.size a := fun v55 v59 k0_hw1 k0_t1 => k0_hw1.2.2.2.1 k0_t1
theorem k0_off4_inb : ∀ (v55 : BitVec 32) (v59 : BitVec 32) (k0_hw1 : k0_chk1 v55 v59) (k0_t1 : Fin (k0_t1_loop v55 v59).trips), ∀ a, (k0_off4 v55 v59 k0_t1) a + S1x16x128.size a ≤ S3x1008x128.size a := fun v55 v59 k0_hw1 k0_t1 => k0_hw1.2.2.2.2.1 k0_t1
theorem k0_t2_ok : ∀ (v55 : BitVec 32) (v59 : BitVec 32) (k0_hw1 : k0_chk1 v55 v59), (k0_t2_loop v55 v59).OK := fun v55 v59 k0_hw1 => k0_hw1.2.2.2.2.2.1
theorem k0_off5_inb : ∀ (v55 : BitVec 32) (v59 : BitVec 32) (k0_hw1 : k0_chk1 v55 v59) (k0_t2 : Fin (k0_t2_loop v55 v59).trips), ∀ a, (k0_off5 v55 v59 k0_t2) a + S16x8.size a ≤ S1008x8.size a := fun v55 v59 k0_hw1 k0_t2 => k0_hw1.2.2.2.2.2.2.1 k0_t2
theorem k0_off6_inb : ∀ (v55 : BitVec 32) (v59 : BitVec 32) (k0_hw1 : k0_chk1 v55 v59) (k0_t2 : Fin (k0_t2_loop v55 v59).trips), ∀ a, (k0_off6 v55 v59 k0_t2) a + S1x16x128.size a ≤ S3x1008x128.size a := fun v55 v59 k0_hw1 k0_t2 => k0_hw1.2.2.2.2.2.2.2.1 k0_t2
theorem k0_off7_inb : ∀ (v55 : BitVec 32) (v59 : BitVec 32) (k0_hw1 : k0_chk1 v55 v59) (k0_t2 : Fin (k0_t2_loop v55 v59).trips), ∀ a, (k0_off7 v55 v59 k0_t2) a + S1x16x128.size a ≤ S3x1008x128.size a := fun v55 v59 k0_hw1 k0_t2 => k0_hw1.2.2.2.2.2.2.2.2.1 k0_t2
theorem k0_off8_inb : ∀ (v55 : BitVec 32) (v59 : BitVec 32) (k0_hw1 : k0_chk1 v55 v59) (k0_t2 : Fin (k0_t2_loop v55 v59).trips), ∀ a, (k0_off8 v55 v59 k0_t2) a + S1x16x128.size a ≤ S3x1008x128.size a := fun v55 v59 k0_hw1 k0_t2 => k0_hw1.2.2.2.2.2.2.2.2.2 k0_t2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6400 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1008x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S320000x128 : Shape := ⟨2, ![320000, 128]⟩
abbrev S320000 : Shape := ⟨1, ![320000]⟩
abbrev S128x32 : Shape := ⟨2, ![128, 32]⟩
abbrev S32 : Shape := ⟨1, ![32]⟩
abbrev S32x3 : Shape := ⟨2, ![32, 3]⟩
abbrev S3 : Shape := ⟨1, ![3]⟩
abbrev S320000x32 : Shape := ⟨2, ![320000, 32]⟩
abbrev S1x32 : Shape := ⟨2, ![1, 32]⟩
abbrev S_ : Shape := ⟨0, ![]⟩
abbrev S320000x3 : Shape := ⟨2, ![320000, 3]⟩
abbrev S1x3 : Shape := ⟨2, ![1, 3]⟩
abbrev S320000x1x1 : Shape := ⟨3, ![320000, 1, 1]⟩
abbrev S1x1000x1 : Shape := ⟨3, ![1, 1000, 1]⟩
abbrev S320000x1000x1 : Shape := ⟨3, ![320000, 1000, 1]⟩
abbrev S320000x1x3 : Shape := ⟨3, ![320000, 1, 3]⟩
abbrev S320000x1000x3 : Shape := ⟨3, ![320000, 1000, 3]⟩
abbrev S1000x3 : Shape := ⟨2, ![1000, 3]⟩
abbrev S320000x1 : Shape := ⟨2, ![320000, 1]⟩
abbrev S1000x128 : Shape := ⟨2, ![1000, 128]⟩
abbrev S1000x128x1 : Shape := ⟨3, ![1000, 128, 1]⟩
abbrev S1000x128x3 : Shape := ⟨3, ![1000, 128, 3]⟩
abbrev S1000x384 : Shape := ⟨2, ![1000, 384]⟩

abbrev nBuf : Space → Nat
  | .hbm => 88
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S128x32, .f32⟩
  | .hbm, ⟨3, _⟩ => ⟨S32, .f32⟩
  | .hbm, ⟨4, _⟩ => ⟨S32x3, .f32⟩
  | .hbm, ⟨5, _⟩ => ⟨S3, .f32⟩
  | .hbm, ⟨6, _⟩ => ⟨S320000x32, .f32⟩
  | .hbm, ⟨7, _⟩ => ⟨S1x32, .f32⟩
  | .hbm, ⟨8, _⟩ => ⟨S320000x32, .f32⟩
  | .hbm, ⟨9, _⟩ => ⟨S320000x32, .f32⟩
  | .hbm, ⟨10, _⟩ => ⟨S320000x32, .f32⟩
  | .hbm, ⟨11, _⟩ => ⟨S320000x32, .f32⟩
  | .hbm, ⟨12, _⟩ => ⟨S_, .f32⟩
  | .hbm, ⟨13, _⟩ => ⟨S320000x32, .f32⟩
  | .hbm, ⟨14, _⟩ => ⟨S320000x32, .f32⟩
  | .hbm, ⟨15, _⟩ => ⟨S_, .f32⟩
  | .hbm, ⟨16, _⟩ => ⟨S320000x32, .f32⟩
  | .hbm, ⟨17, _⟩ => ⟨S320000x32, .f32⟩
  | .hbm, ⟨18, _⟩ => ⟨S320000x32, .f32⟩
  | .hbm, ⟨19, _⟩ => ⟨S320000x3, .f32⟩
  | .hbm, ⟨20, _⟩ => ⟨S1x3, .f32⟩
  | .hbm, ⟨21, _⟩ => ⟨S320000x3, .f32⟩
  | .hbm, ⟨22, _⟩ => ⟨S320000x3, .f32⟩
  | .hbm, ⟨23, _⟩ => ⟨S320000x1x1, .i32⟩
  | .hbm, ⟨24, _⟩ => ⟨S1x1000x1, .i32⟩
  | .hbm, ⟨25, _⟩ => ⟨S320000x1000x1, .i32⟩
  | .hbm, ⟨26, _⟩ => ⟨S320000x1000x1, .i32⟩
  | .hbm, ⟨27, _⟩ => ⟨S320000x1000x1, .i1⟩
  | .hbm, ⟨28, _⟩ => ⟨S320000x1x3, .f32⟩
  | .hbm, ⟨29, _⟩ => ⟨S_, .f32⟩
  | .hbm, ⟨30, _⟩ => ⟨S_, .f32⟩
  | .hbm, ⟨31, _⟩ => ⟨S320000x1000x3, .i1⟩
  | .hbm, ⟨32, _⟩ => ⟨S320000x1000x3, .f32⟩
  | .hbm, ⟨33, _⟩ => ⟨S320000x1000x3, .f32⟩
  | .hbm, ⟨34, _⟩ => ⟨S320000x1000x3, .f32⟩
  | .hbm, ⟨35, _⟩ => ⟨S_, .f32⟩
  | .hbm, ⟨36, _⟩ => ⟨S1000x3, .f32⟩
  | .hbm, ⟨37, _⟩ => ⟨S_, .i32⟩
  | .hbm, ⟨38, _⟩ => ⟨S320000, .i32⟩
  | .hbm, ⟨39, _⟩ => ⟨S320000, .i1⟩
  | .hbm, ⟨40, _⟩ => ⟨S_, .i32⟩
  | .hbm, ⟨41, _⟩ => ⟨S320000, .i32⟩
  | .hbm, ⟨42, _⟩ => ⟨S320000, .i32⟩
  | .hbm, ⟨43, _⟩ => ⟨S320000, .i32⟩
  | .hbm, ⟨44, _⟩ => ⟨S320000x1, .i32⟩
  | .hbm, ⟨45, _⟩ => ⟨S320000x3, .f32⟩
  | .hbm, ⟨46, _⟩ => ⟨S320000x3, .f32⟩
  | .hbm, ⟨47, _⟩ => ⟨S320000x3, .f32⟩
  | .hbm, ⟨48, _⟩ => ⟨S_, .f32⟩
  | .hbm, ⟨49, _⟩ => ⟨S1000x3, .f32⟩
  | .hbm, ⟨50, _⟩ => ⟨S320000x1, .i32⟩
  | .hbm, ⟨51, _⟩ => ⟨S1000x3, .f32⟩
  | .hbm, ⟨52, _⟩ => ⟨S_, .i32⟩
  | .hbm, ⟨53, _⟩ => ⟨S320000, .i32⟩
  | .hbm, ⟨54, _⟩ => ⟨S320000, .i1⟩
  | .hbm, ⟨55, _⟩ => ⟨S_, .i32⟩
  | .hbm, ⟨56, _⟩ => ⟨S320000, .i32⟩
  | .hbm, ⟨57, _⟩ => ⟨S320000, .i32⟩
  | .hbm, ⟨58, _⟩ => ⟨S320000, .i32⟩
  | .hbm, ⟨59, _⟩ => ⟨S320000x1, .i32⟩
  | .hbm, ⟨60, _⟩ => ⟨S320000x3, .f32⟩
  | .hbm, ⟨61, _⟩ => ⟨S320000x3, .f32⟩
  | .hbm, ⟨62, _⟩ => ⟨S320000x1, .f32⟩
  | .hbm, ⟨63, _⟩ => ⟨S320000x128, .f32⟩
  | .hbm, ⟨64, _⟩ => ⟨S320000x128, .f32⟩
  | .hbm, ⟨65, _⟩ => ⟨S_, .f32⟩
  | .hbm, ⟨66, _⟩ => ⟨S1000x128, .f32⟩
  | .hbm, ⟨67, _⟩ => ⟨S320000x1, .i32⟩
  | .hbm, ⟨68, _⟩ => ⟨S1000x128, .f32⟩
  | .hbm, ⟨69, _⟩ => ⟨S320000x1, .f32⟩
  | .hbm, ⟨70, _⟩ => ⟨S320000x128, .f32⟩
  | .hbm, ⟨71, _⟩ => ⟨S320000x128, .f32⟩
  | .hbm, ⟨72, _⟩ => ⟨S_, .f32⟩
  | .hbm, ⟨73, _⟩ => ⟨S1000x128, .f32⟩
  | .hbm, ⟨74, _⟩ => ⟨S320000x1, .i32⟩
  | .hbm, ⟨75, _⟩ => ⟨S1000x128, .f32⟩
  | .hbm, ⟨76, _⟩ => ⟨S320000x1, .f32⟩
  | .hbm, ⟨77, _⟩ => ⟨S320000x128, .f32⟩
  | .hbm, ⟨78, _⟩ => ⟨S320000x128, .f32⟩
  | .hbm, ⟨79, _⟩ => ⟨S_, .f32⟩
  | .hbm, ⟨80, _⟩ => ⟨S1000x128, .f32⟩
  | .hbm, ⟨81, _⟩ => ⟨S320000x1, .i32⟩
  | .hbm, ⟨82, _⟩ => ⟨S1000x128, .f32⟩
  | .hbm, ⟨83, _⟩ => ⟨S1000x128x1, .f32⟩
  | .hbm, ⟨84, _⟩ => ⟨S1000x128x1, .f32⟩
  | .hbm, ⟨85, _⟩ => ⟨S1000x128x1, .f32⟩
  | .hbm, ⟨86, _⟩ => ⟨S1000x128x3, .f32⟩
  | .hbm, ⟨87, _⟩ => ⟨S1000x384, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_v15 : Ref sig .tc := ⟨.hbm, 34, rfl⟩
abbrev main_cst_0 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_1 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_2 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_3 : Ref sig .tc := ⟨.hbm, 52, rfl⟩
abbrev main_v29 : Ref sig .tc := ⟨.hbm, 53, rfl⟩
abbrev main_v30 : Ref sig .tc := ⟨.hbm, 54, rfl⟩
abbrev main_c_4 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_5 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_6 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_7 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩

abbrev nD : Nat := 1
abbrev τ : Topo := Topo.v7x

variable {F : FTy → Type} [FloatOps F]
-- ==== Proof.KernelIdeal.Step.lean ====
/- One window step of the kernel's inner loop, as a plain function of the values in the two accumulators: the sixteen
   rows of the denominator at the window, then the sixteen rows of each of the three heads' sums. The loop's writes,
   read back through the memrefs, are that function folded over the trips. -/
module

public import proofs.«01_k».proof.Proof.Gen.KernelIdeal.Loops
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- What one window step leaves in the denominators. -/
def winDen (ow : IVec S1x6400 32) (et : FVec F S8x6400 .f32) (a b : BitVec 32) (hw : k0_chk1 a b) (w : BitVec 32)
    (k : Fin (k0_t1_loop a b).trips) (d : Vec F S1008x8 .f32) : Vec F S1008x8 .f32 :=
  VecWindow.put d (k0_off1 a b k) S16x8.size
    (k0_pay6 ow et a b w 0#32 1#32 k (VecWindow.window d (k0_off1 a b k) S16x8.size (k0_off1_inb a b hw k)))

/-- What one window step leaves in the three heads' sums: head 0, then head 1, then head 2. -/
def winOut (x : Vec F S6400x128 .f32) (ow : IVec S1x6400 32) (et : FVec F S8x6400 .f32) (a b : BitVec 32) (hw : k0_chk1 a b) (w : BitVec 32)
    (k : Fin (k0_t1_loop a b).trips) (o : Vec F S3x1008x128 .f32) : Vec F S3x1008x128 .f32 :=
  let o1 := VecWindow.put o (k0_off2 a b k) S1x16x128.size
    (k0_pay8 x ow et a b w 0#32 1#32 k (VecWindow.window o (k0_off2 a b k) S1x16x128.size (k0_off2_inb a b hw k)))
  let o2 := VecWindow.put o1 (k0_off3 a b k) S1x16x128.size
    (k0_pay1 (k0_pay9 x ow et a b w 0#32 1#32 k (VecWindow.window o1 (k0_off3 a b k) S1x16x128.size (k0_off3_inb a b hw k))))
  VecWindow.put o2 (k0_off4 a b k) S1x16x128.size
    (k0_pay2 (k0_pay7 x ow et a b w 0#32 1#32 k) (VecWindow.window o2 (k0_off4 a b k) S1x16x128.size (k0_off4_inb a b hw k)))

/-- The sums after the first `n` windows. -/
def foldOut (x : Vec F S6400x128 .f32) (ow : IVec S1x6400 32) (et : FVec F S8x6400 .f32) (a b : BitVec 32) (hw : k0_chk1 a b) (w : BitVec 32) :
    ℕ → Vec F S3x1008x128 .f32 → Vec F S3x1008x128 .f32
  | 0, o => o
  | n + 1, o => if h : n < (k0_t1_loop a b).trips then winOut x ow et a b hw w ⟨n, h⟩ (foldOut x ow et a b hw w n o) else foldOut x ow et a b hw w n o

/-- The denominators after the first `n` windows. -/
def foldDen (ow : IVec S1x6400 32) (et : FVec F S8x6400 .f32) (a b : BitVec 32) (hw : k0_chk1 a b) (w : BitVec 32) :
    ℕ → Vec F S1008x8 .f32 → Vec F S1008x8 .f32
  | 0, d => d
  | n + 1, d => if h : n < (k0_t1_loop a b).trips then winDen ow et a b hw w ⟨n, h⟩ (foldDen ow et a b hw w n d) else foldDen ow et a b hw w n d

theorem foldOut_succ (x : Vec F S6400x128 .f32) (ow : IVec S1x6400 32) (et : FVec F S8x6400 .f32) (a b : BitVec 32) (hw : k0_chk1 a b) (w : BitVec 32)
    (n : ℕ) (h : n < (k0_t1_loop a b).trips) (o : Vec F S3x1008x128 .f32) :
    foldOut x ow et a b hw w (n + 1) o = winOut x ow et a b hw w ⟨n, h⟩ (foldOut x ow et a b hw w n o) := dif_pos h

theorem foldDen_succ (ow : IVec S1x6400 32) (et : FVec F S8x6400 .f32) (a b : BitVec 32) (hw : k0_chk1 a b) (w : BitVec 32)
    (n : ℕ) (h : n < (k0_t1_loop a b).trips) (d : Vec F S1008x8 .f32) :
    foldDen ow et a b hw w (n + 1) d = winDen ow et a b hw w ⟨n, h⟩ (foldDen ow et a b hw w n d) := dif_pos h

/-- Three loads and stores in turn, each payload taken from what its own window reads after the stores before it. -/
theorem read_three {κ : Kind} {sp : Space} (v : View sig κ sp S3x1008x128 .f32) (f : v.ty.Contents (Elt F)) {a b c : Fin 3 → ℕ}
    (ha : ∀ x, a x + S1x16x128.size x ≤ S3x1008x128.size x) (hb : ∀ x, b x + S1x16x128.size x ≤ S3x1008x128.size x)
    (hc : ∀ x, c x + S1x16x128.size x ≤ S3x1008x128.size x) (p q r : Vec F S1x16x128 .f32 → Vec F S1x16x128 .f32) :
    let Ra := Rect.unit (s := S3x1008x128) a S1x16x128.size ha
    let Rb := Rect.unit (s := S3x1008x128) b S1x16x128.size hb
    let Rc := Rect.unit (s := S3x1008x128) c S1x16x128.size hc
    let La : List (View.Piece (Elt F) S3x1008x128 .f32) := [⟨Ra, p (v.readAt (Elt F) Ra.toLoadRect f)⟩]
    let Lb : List (View.Piece (Elt F) S3x1008x128 .f32) := ⟨Rb, q (v.readAt (Elt F) Rb.toLoadRect (v.writes (Elt F) f La))⟩ :: La
    let Lc : List (View.Piece (Elt F) S3x1008x128 .f32) := ⟨Rc, r (v.readAt (Elt F) Rc.toLoadRect (v.writes (Elt F) f Lb))⟩ :: Lb
    let o := v.read (Elt F) f
    let o1 := VecWindow.put o a S1x16x128.size (p (VecWindow.window o a S1x16x128.size ha))
    let o2 := VecWindow.put o1 b S1x16x128.size (q (VecWindow.window o1 b S1x16x128.size hb))
    v.read (Elt F) (v.writes (Elt F) f Lc) = VecWindow.put o2 c S1x16x128.size (r (VecWindow.window o2 c S1x16x128.size hc)) := by
  intro Ra Rb Rc La Lb Lc o o1 o2
  have e1 : v.read (Elt F) (v.writes (Elt F) f La) = o1 :=
    (View.read_writes_cons_put _ _ ha _ _ rfl).trans rfl
  have e2 : v.read (Elt F) (v.writes (Elt F) f Lb) = o2 := by
    refine (View.read_writes_cons_put _ _ hb _ _ rfl).trans ?_
    rw [e1, View.readAt_unit _ _ hb rfl hb, e1]
  refine (View.read_writes_cons_put _ _ hc _ _ rfl).trans ?_
  rw [e2, View.readAt_unit _ _ hc rfl hc, e2]

section
variable (𝒱 : Variants) (c : Dev nD) (bd : Option 𝒱.V) (i : grid0.Coords) (arg1 : Memref sig .tc .vmem S6400x128 .f32) (harg1 : arg1.IsWhole) (arg2 : Memref sig .tc .vmem S1x1x6400 .i32) (harg2 : arg2.IsWhole) (arg3 : Memref sig .tc .vmem S128x32 .f32) (harg3 : arg3.IsWhole) (arg4 : Memref sig .tc .vmem S32x1 .f32) (harg4 : arg4.IsWhole) (arg5 : Memref sig .tc .vmem S32x8 .f32) (harg5 : arg5.IsWhole) (arg6 : Memref sig .tc .vmem S8x1 .f32) (harg6 : arg6.IsWhole) (arg7 : Memref sig .tc .vmem S3x1008x128 .f32) (harg7 : arg7.IsWhole) (arg8 : Memref sig .tc .vmem S1008x8 .f32) (harg8 : arg8.IsWhole) (v3 : Vec F S6400x128 .f32) (v5 : IVec S1x6400 32) (v51 : FVec F S8x6400 .f32) (v55 : BitVec 32) (v59 : BitVec 32) (k0_hw1 : k0_chk1 v55 v59) (v77 : BitVec 32)

theorem read_trip_den (k : Fin (k0_t1_loop v55 v59).trips) (f7 : BufTy.Contents (Elt F) arg7.view.ty) (f8 : BufTy.Contents (Elt F) arg8.view.ty) :
    arg8.view.read (Elt F) (arg8.view.writes (Elt F) f8 (tripL_k0_t1 (F := F) 𝒱 c bd i arg1 harg1 arg2 harg2 arg3 harg3 arg4 harg4 arg5 harg5 arg6 harg6 arg7 harg7 arg8 harg8 v3 v5 v51 v55 v59 k0_hw1 v77 k f7 f8).2)
      = winDen v5 v51 v55 v59 k0_hw1 v77 k (arg8.view.read (Elt F) f8) := by
  unfold tripL_k0_t1 trip_k0_t1
  exact View.read_writes_cons_put _ _ (k0_off1_inb v55 v59 k0_hw1 k) _ _ rfl

theorem read_trip_out (k : Fin (k0_t1_loop v55 v59).trips) (f7 : BufTy.Contents (Elt F) arg7.view.ty) (f8 : BufTy.Contents (Elt F) arg8.view.ty) :
    arg7.view.read (Elt F) (arg7.view.writes (Elt F) f7 (tripL_k0_t1 (F := F) 𝒱 c bd i arg1 harg1 arg2 harg2 arg3 harg3 arg4 harg4 arg5 harg5 arg6 harg6 arg7 harg7 arg8 harg8 v3 v5 v51 v55 v59 k0_hw1 v77 k f7 f8).1)
      = winOut v3 v5 v51 v55 v59 k0_hw1 v77 k (arg7.view.read (Elt F) f7) := by
  unfold tripL_k0_t1 trip_k0_t1
  exact read_three arg7.view f7 (k0_off2_inb v55 v59 k0_hw1 k) (k0_off3_inb v55 v59 k0_hw1 k) (k0_off4_inb v55 v59 k0_hw1 k)
    (k0_pay8 v3 v5 v51 v55 v59 v77 0#32 1#32 k) (fun z => k0_pay1 (k0_pay9 v3 v5 v51 v55 v59 v77 0#32 1#32 k z))
    (k0_pay2 (k0_pay7 v3 v5 v51 v55 v59 v77 0#32 1#32 k))

/-- What the pieces of the first `n` trips leave, read through the two memrefs, is the two folds from what they read at entry. -/
theorem read_pb (G7 : BufTy.Contents (Elt F) arg7.view.ty) (G8 : BufTy.Contents (Elt F) arg8.view.ty) (n : ℕ) (hn : n ≤ (k0_t1_loop v55 v59).trips) :
    arg7.view.read (Elt F) (arg7.view.writes (Elt F) G7 (pb_k0_t1 (F := F) 𝒱 c bd i arg1 harg1 arg2 harg2 arg3 harg3 arg4 harg4 arg5 harg5 arg6 harg6 arg7 harg7 arg8 harg8 v3 v5 v51 v55 v59 k0_hw1 v77 G7 G8 n).1)
        = foldOut v3 v5 v51 v55 v59 k0_hw1 v77 n (arg7.view.read (Elt F) G7)
      ∧ arg8.view.read (Elt F) (arg8.view.writes (Elt F) G8 (pb_k0_t1 (F := F) 𝒱 c bd i arg1 harg1 arg2 harg2 arg3 harg3 arg4 harg4 arg5 harg5 arg6 harg6 arg7 harg7 arg8 harg8 v3 v5 v51 v55 v59 k0_hw1 v77 G7 G8 n).2)
        = foldDen v5 v51 v55 v59 k0_hw1 v77 n (arg8.view.read (Elt F) G8) := by
  induction n with
  | zero => exact ⟨rfl, rfl⟩
  | succ n ih =>
    obtain ⟨ih7, ih8⟩ := ih (by omega)
    have e := pb_k0_t1_succ (F := F) 𝒱 c bd i arg1 harg1 arg2 harg2 arg3 harg3 arg4 harg4 arg5 harg5 arg6 harg6 arg7 harg7 arg8 harg8 v3 v5 v51 v55 v59 k0_hw1 v77 G7 G8 ⟨n, hn⟩
    dsimp only at e
    rw [e]
    dsimp only
    rw [View.writes_append, View.writes_append, read_trip_out, read_trip_den, ih7, ih8]
    exact ⟨(foldOut_succ _ _ _ _ _ _ _ n hn _).symm, (foldDen_succ _ _ _ _ _ _ n hn _).symm⟩

/-- A loop of no trips has written no pieces. -/
theorem pb2_zero (v101 : BitVec 32) (G7 : BufTy.Contents (Elt F) arg7.view.ty) (G8 : BufTy.Contents (Elt F) arg8.view.ty) (n : ℕ) (hn : n = 0) :
    pb_k0_t2 (F := F) 𝒱 c bd i arg1 harg1 arg2 harg2 arg3 harg3 arg4 harg4 arg5 harg5 arg6 harg6 arg7 harg7 arg8 harg8 v3 v5 v51 v55 v59 k0_hw1 v77 v101 G7 G8 n = ([], []) := by
  subst hn; rfl

/-- What both loops leave, the second making no trip: the two folds over the trips of the first. -/
theorem read_loops (v101 : BitVec 32) (G7 G7' : BufTy.Contents (Elt F) arg7.view.ty) (G8 G8' : BufTy.Contents (Elt F) arg8.view.ty)
    (n1 n2 : ℕ) (hn1 : n1 ≤ (k0_t1_loop v55 v59).trips) (hn2 : n2 = 0) :
    arg7.view.read (Elt F) (arg7.view.writes (Elt F) G7
        ((pb_k0_t2 (F := F) 𝒱 c bd i arg1 harg1 arg2 harg2 arg3 harg3 arg4 harg4 arg5 harg5 arg6 harg6 arg7 harg7 arg8 harg8 v3 v5 v51 v55 v59 k0_hw1 v77 v101 G7' G8' n2).1
          ++ (pb_k0_t1 (F := F) 𝒱 c bd i arg1 harg1 arg2 harg2 arg3 harg3 arg4 harg4 arg5 harg5 arg6 harg6 arg7 harg7 arg8 harg8 v3 v5 v51 v55 v59 k0_hw1 v77 G7 G8 n1).1))
        = foldOut v3 v5 v51 v55 v59 k0_hw1 v77 n1 (arg7.view.read (Elt F) G7)
      ∧ arg8.view.read (Elt F) (arg8.view.writes (Elt F) G8
        ((pb_k0_t2 (F := F) 𝒱 c bd i arg1 harg1 arg2 harg2 arg3 harg3 arg4 harg4 arg5 harg5 arg6 harg6 arg7 harg7 arg8 harg8 v3 v5 v51 v55 v59 k0_hw1 v77 v101 G7' G8' n2).2
          ++ (pb_k0_t1 (F := F) 𝒱 c bd i arg1 harg1 arg2 harg2 arg3 harg3 arg4 harg4 arg5 harg5 arg6 harg6 arg7 harg7 arg8 harg8 v3 v5 v51 v55 v59 k0_hw1 v77 G7 G8 n1).2))
        = foldDen v5 v51 v55 v59 k0_hw1 v77 n1 (arg8.view.read (Elt F) G8) := by
  have e := pb2_zero 𝒱 c bd i arg1 harg1 arg2 harg2 arg3 harg3 arg4 harg4 arg5 harg5 arg6 harg6 arg7 harg7 arg8 harg8 v3 v5 v51 v55 v59 k0_hw1 v77 v101 G7' G8' n2 hn2
  generalize pb_k0_t2 (F := F) 𝒱 c bd i arg1 harg1 arg2 harg2 arg3 harg3 arg4 harg4 arg5 harg5 arg6 harg6 arg7 harg7 arg8 harg8 v3 v5 v51 v55 v59 k0_hw1 v77 v101 G7' G8' n2 = L at e
  subst e
  exact read_pb 𝒱 c bd i arg1 harg1 arg2 harg2 arg3 harg3 arg4 harg4 arg5 harg5 arg6 harg6 arg7 harg7 arg8 harg8 v3 v5 v51 v55 v59 k0_hw1 v77 G7 G8 n1 hn1

/-- The same over stores made before the loops. -/
theorem read_loops_on (v101 : BitVec 32) (f7 G7' : BufTy.Contents (Elt F) arg7.view.ty) (f8 G8' : BufTy.Contents (Elt F) arg8.view.ty)
    (B7 : List (View.Piece (Elt F) S3x1008x128 .f32)) (B8 : List (View.Piece (Elt F) S1008x8 .f32))
    (n1 n2 : ℕ) (hn1 : n1 ≤ (k0_t1_loop v55 v59).trips) (hn2 : n2 = 0) :
    arg7.view.read (Elt F) (arg7.view.writes (Elt F) f7
        ((pb_k0_t2 (F := F) 𝒱 c bd i arg1 harg1 arg2 harg2 arg3 harg3 arg4 harg4 arg5 harg5 arg6 harg6 arg7 harg7 arg8 harg8 v3 v5 v51 v55 v59 k0_hw1 v77 v101 G7' G8' n2).1
          ++ ((pb_k0_t1 (F := F) 𝒱 c bd i arg1 harg1 arg2 harg2 arg3 harg3 arg4 harg4 arg5 harg5 arg6 harg6 arg7 harg7 arg8 harg8 v3 v5 v51 v55 v59 k0_hw1 v77 (arg7.view.writes (Elt F) f7 B7) (arg8.view.writes (Elt F) f8 B8) n1).1 ++ B7)))
        = foldOut v3 v5 v51 v55 v59 k0_hw1 v77 n1 (arg7.view.read (Elt F) (arg7.view.writes (Elt F) f7 B7))
      ∧ arg8.view.read (Elt F) (arg8.view.writes (Elt F) f8
        ((pb_k0_t2 (F := F) 𝒱 c bd i arg1 harg1 arg2 harg2 arg3 harg3 arg4 harg4 arg5 harg5 arg6 harg6 arg7 harg7 arg8 harg8 v3 v5 v51 v55 v59 k0_hw1 v77 v101 G7' G8' n2).2
          ++ ((pb_k0_t1 (F := F) 𝒱 c bd i arg1 harg1 arg2 harg2 arg3 harg3 arg4 harg4 arg5 harg5 arg6 harg6 arg7 harg7 arg8 harg8 v3 v5 v51 v55 v59 k0_hw1 v77 (arg7.view.writes (Elt F) f7 B7) (arg8.view.writes (Elt F) f8 B8) n1).2 ++ B8)))
        = foldDen v5 v51 v55 v59 k0_hw1 v77 n1 (arg8.view.read (Elt F) (arg8.view.writes (Elt F) f8 B8)) := by
  rw [← List.append_assoc, ← List.append_assoc, View.writes_append, View.writes_append arg8.view]
  exact read_loops 𝒱 c bd i arg1 harg1 arg2 harg2 arg3 harg3 arg4 harg4 arg5 harg5 arg6 harg6 arg7 harg7 arg8 harg8 v3 v5 v51 v55 v59 k0_hw1 v77 v101 _ G7' _ G8' n1 n2 hn1 hn2

end

end Cert.KernelIdeal.Hand
end
-- ==== Proof.KernelIdeal.Words.lean ====
/- The window words of one block: from the least and the greatest owner of the block (both below 1000) the kernel
   computes the first window's row, a multiple of sixteen, and the number of windows. Their closed forms as numbers,
   and from them the bounds the kernel assumes of its windows. -/
module

public import proofs.«01_k».proof.KernelIdeal
public import Idealize.ShloMosaic.Init

@[expose] public section

set_option maxRecDepth 16384

namespace Cert.KernelIdeal.Hand

open Cert.KernelIdeal
open Idealize.ShloMosaic

/-- The kernel's floor division by sixteen, as it computes it. -/
def fdiv16 (w : BitVec 32) : BitVec 32 :=
  Scalar.select
    (Scalar.andi
      (Scalar.cmpi .ne
        (Scalar.subi (Scalar.extui (Scalar.cmpi .sgt w 0#32)) (Scalar.extui (Scalar.cmpi .slt w 0#32)))
        (Scalar.subi (Scalar.extui (Scalar.cmpi .sgt 16#32 0#32)) (Scalar.extui (Scalar.cmpi .slt 16#32 0#32))))
      (Scalar.cmpi .ne (Scalar.remsi w 16#32) 0#32))
    (Scalar.subi (Scalar.divsi w 16#32) 1#32)
    (Scalar.divsi w 16#32)

theorem fdiv16_ofNat : ∀ n, n < 1024 → fdiv16 (BitVec.ofNat 32 n) = BitVec.ofNat 32 (n / 16) := by
  decide +kernel

theorem divsi_one : ∀ n, n < 1024 → Scalar.divsi (BitVec.ofNat 32 n) 1#32 = BitVec.ofNat 32 n := by
  decide +kernel

theorem trips_ofNat : ∀ n, n < 128 → Scf.trips 0#32 (BitVec.ofNat 32 n) 1#32 = n := by
  decide +kernel

theorem ok_ofNat : ∀ n, n < 128 → Scf.OK 0#32 (BitVec.ofNat 32 n) 1#32 := by
  decide +kernel

theorem trips_self : ∀ n, n < 128 → Scf.trips (BitVec.ofNat 32 n) (BitVec.ofNat 32 n) 1#32 = 0 := by
  decide +kernel

theorem ok_self : ∀ n, n < 128 → Scf.OK (BitVec.ofNat 32 n) (BitVec.ofNat 32 n) 1#32 := by
  decide +kernel

/-- The word of the first window's row. -/
def baseW (a : BitVec 32) : BitVec 32 := Scalar.muli (fdiv16 a) 16#32

/-- The word of the number of windows. -/
def nwinW (a b : BitVec 32) : BitVec 32 := Scalar.addi (fdiv16 (Scalar.subi b (baseW a))) 1#32

/-- The first window's row as a number. -/
def base (a : BitVec 32) : ℕ := a.toNat / 16 * 16

/-- The number of windows as a number. -/
def nwin (a b : BitVec 32) : ℕ := (b.toNat - base a) / 16 + 1

theorem loop1_eq (a b : BitVec 32) :
    k0_t1_loop a b = ⟨0#32, Scalar.addi 0#32 (Scalar.muli (Scalar.divsi (Scalar.subi (nwinW a b) 0#32) 1#32) 1#32), 1#32⟩ := rfl

theorem loop2_eq (a b : BitVec 32) :
    k0_t2_loop a b = ⟨Scalar.addi 0#32 (Scalar.muli (Scalar.divsi (Scalar.subi (nwinW a b) 0#32) 1#32) 1#32), Scalar.addi 0#32 (Scalar.subi (nwinW a b) 0#32), 1#32⟩ := rfl

section
variable {a b : BitVec 32} (hab : a.toNat ≤ b.toNat) (hb : b.toNat < 1000)
include hab hb

theorem base_le : base a ≤ a.toNat := Nat.div_mul_le_self _ _

omit hb in
theorem base_le' : base a ≤ b.toNat := le_trans (Nat.div_mul_le_self _ _) hab

theorem baseW_eq : baseW a = BitVec.ofNat 32 (base a) := by
  have ha : a = BitVec.ofNat 32 a.toNat := by simp
  unfold baseW base
  conv_lhs => rw [ha, fdiv16_ofNat _ (by omega)]
  show BitVec.ofNat 32 (a.toNat / 16) * BitVec.ofNat 32 16 = _
  rw [← BitVec.ofNat_mul]

theorem subBase_eq : Scalar.subi b (baseW a) = BitVec.ofNat 32 (b.toNat - base a) := by
  rw [baseW_eq hab hb]
  show b - BitVec.ofNat 32 (base a) = _
  apply BitVec.eq_of_toNat_eq
  have := base_le' hab
  rw [BitVec.toNat_sub, BitVec.toNat_ofNat, BitVec.toNat_ofNat]
  omega

theorem nwinW_eq : nwinW a b = BitVec.ofNat 32 (nwin a b) := by
  unfold nwinW nwin
  rw [subBase_eq hab hb, fdiv16_ofNat _ (by omega)]
  show BitVec.ofNat 32 _ + BitVec.ofNat 32 1 = _
  rw [← BitVec.ofNat_add]

theorem nwin_lt : nwin a b < 128 := by unfold nwin; omega

theorem ub_eq : Scalar.addi 0#32 (Scalar.muli (Scalar.divsi (Scalar.subi (nwinW a b) 0#32) 1#32) 1#32) = BitVec.ofNat 32 (nwin a b) := by
  have h := nwin_lt hab hb
  rw [nwinW_eq hab hb]
  have e : Scalar.subi (BitVec.ofNat 32 (nwin a b)) 0#32 = BitVec.ofNat 32 (nwin a b) := by
    show _ - (0#32) = _; simp
  rw [e, divsi_one _ (by omega)]
  show 0#32 + _ * 1#32 = _
  simp

theorem ub2_eq : Scalar.addi 0#32 (Scalar.subi (nwinW a b) 0#32) = BitVec.ofNat 32 (nwin a b) := by
  rw [nwinW_eq hab hb]
  show 0#32 + (_ - 0#32) = _
  simp

theorem trips1 : (k0_t1_loop a b).trips = nwin a b := by
  rw [loop1_eq]
  show Scf.trips 0#32 _ 1#32 = _
  rw [ub_eq hab hb, trips_ofNat _ (nwin_lt hab hb)]

theorem ok1 : (k0_t1_loop a b).OK := by
  rw [loop1_eq]
  show Scf.OK 0#32 _ 1#32
  rw [ub_eq hab hb]
  exact ok_ofNat _ (nwin_lt hab hb)

theorem trips2 : (k0_t2_loop a b).trips = 0 := by
  rw [loop2_eq]
  show Scf.trips _ _ 1#32 = _
  rw [ub_eq hab hb, ub2_eq hab hb, trips_self _ (nwin_lt hab hb)]

theorem ok2 : (k0_t2_loop a b).OK := by
  rw [loop2_eq]
  show Scf.OK _ _ 1#32
  rw [ub_eq hab hb, ub2_eq hab hb]
  exact ok_self _ (nwin_lt hab hb)

/-- The row word of window `k`. -/
theorem row_word (k : ℕ) :
    Scalar.addi (baseW a) (Scalar.muli (Scf.iv 0#32 1#32 k) 16#32) = BitVec.ofNat 32 (base a + 16 * k) := by
  rw [baseW_eq hab hb]
  show BitVec.ofNat 32 (base a) + (0#32 + BitVec.ofNat 32 k * 1#32) * BitVec.ofNat 32 16 = _
  rw [BitVec.zero_add, BitVec.mul_one, ← BitVec.ofNat_mul, ← BitVec.ofNat_add, Nat.mul_comm k 16]

theorem row_lt (k : ℕ) (hk : k < nwin a b) : base a + 16 * k + 16 ≤ 1008 := by
  have := base_le' hab
  unfold nwin at hk
  have h16 : base a % 16 = 0 := by unfold base; omega
  omega

theorem row_toNat (k : ℕ) (hk : k < nwin a b) :
    (Scalar.indexCast (Scalar.addi (baseW a) (Scalar.muli (Scf.iv 0#32 1#32 k) 16#32))).toNat = base a + 16 * k := by
  rw [row_word hab hb]
  show (BitVec.ofNat 32 (base a + 16 * k)).toNat = _
  have := row_lt hab hb k hk
  rw [BitVec.toNat_ofNat]; omega

theorem off1_eq (k : Fin (k0_t1_loop a b).trips) : k0_off1 a b k = ![base a + 16 * k.val, 0] := by
  have hk : k.val < nwin a b := lt_of_lt_of_eq k.isLt (trips1 hab hb)
  rw [← row_toNat hab hb k.val hk]; rfl

theorem off2_eq (k : Fin (k0_t1_loop a b).trips) : k0_off2 a b k = ![0, base a + 16 * k.val, 0] := by
  have hk : k.val < nwin a b := lt_of_lt_of_eq k.isLt (trips1 hab hb)
  rw [← row_toNat hab hb k.val hk]; rfl

theorem off3_eq (k : Fin (k0_t1_loop a b).trips) : k0_off3 a b k = ![1, base a + 16 * k.val, 0] := by
  have hk : k.val < nwin a b := lt_of_lt_of_eq k.isLt (trips1 hab hb)
  rw [← row_toNat hab hb k.val hk]; rfl

theorem off4_eq (k : Fin (k0_t1_loop a b).trips) : k0_off4 a b k = ![2, base a + 16 * k.val, 0] := by
  have hk : k.val < nwin a b := lt_of_lt_of_eq k.isLt (trips1 hab hb)
  rw [← row_toNat hab hb k.val hk]; rfl

/-- What the kernel assumes of its two words holds of any two owners in order and below 1000. -/
theorem chk_of_le : k0_chk1 a b := by
  have hr : ∀ k : Fin (k0_t1_loop a b).trips, base a + 16 * k.val + 16 ≤ 1008 := fun k =>
    row_lt hab hb k.val (lt_of_lt_of_eq k.isLt (trips1 hab hb))
  have h2 : ∀ {P : Fin (k0_t2_loop a b).trips → Prop}, ∀ k, P k := fun k => absurd (lt_of_lt_of_eq k.isLt (trips2 hab hb)) (Nat.not_lt_zero _)
  refine ⟨ok1 hab hb, fun k x => ?_, fun k x => ?_, fun k x => ?_, fun k x => ?_, ok2 hab hb, h2, h2, h2, h2⟩
  · rw [off1_eq hab hb]; have := hr k; fin_cases x <;> simp [S16x8, S1008x8] <;> omega
  · rw [off2_eq hab hb]; have := hr k; fin_cases x <;> simp [S1x16x128, S3x1008x128] <;> omega
  · rw [off3_eq hab hb]; have := hr k; fin_cases x <;> simp [S1x16x128, S3x1008x128] <;> omega
  · rw [off4_eq hab hb]; have := hr k; fin_cases x <;> simp [S1x16x128, S3x1008x128] <;> omega

end

end Cert.KernelIdeal.Hand
-- ==== Proof.KernelIdeal.Body.lean ====
/- The kernel's body at one grid point, on whole staging memrefs, as a function of the values they hold: at point 0 the
   two accumulators are cleared first, at point 49 the sums are divided by the denominators last, and in between the
   windows of the block are folded in. -/
module

public import proofs.«01_k».proof.Proof.KernelIdeal.Step
public import proofs.«01_k».proof.Proof.KernelIdeal.Words
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The word of the block's least owner. -/
abbrev firstW (ow : IVec S1x6400 32) : BitVec 32 := extractAt ![0, 0, 0] (k0_pay28 ow) inpos_S1x1x1_p0_0_0

/-- The word of the block's greatest owner. -/
abbrev lastW (ow : IVec S1x6400 32) : BitVec 32 := extractAt ![0, 0, 0] (k0_pay29 ow) inpos_S1x1x1_p0_0_0

/-- What the kernel assumes of the block's owners. -/
abbrev Chk (x1 : Vec F S1x1x6400 .i32) : Prop := k0_chk1 (firstW (k0_pay21 (F := F) x1)) (lastW (k0_pay21 (F := F) x1))

/-- The second loop makes no trip. -/
abbrev NoTail (x1 : Vec F S1x1x6400 .i32) : Prop := (k0_t2_loop (firstW (k0_pay21 (F := F) x1)) (lastW (k0_pay21 (F := F) x1))).trips = 0

/-- The block's exponentials, one row per head. -/
abbrev etOf (x0 : Vec F S6400x128 .f32) (x2 : Vec F S128x32 .f32) (x3 : Vec F S32x1 .f32) (x4 : Vec F S32x8 .f32) (x5 : Vec F S8x1 .f32) : FVec F S8x6400 .f32 :=
  k0_pay27 (k0_pay22 x0 x2 x3) (k0_pay24 x4) (k0_pay25 x4) (k0_pay26 x0 x2 x3) x5

/-- The sums after one block from `o`. -/
def blkOut (x0 : Vec F S6400x128 .f32) (x1 : Vec F S1x1x6400 .i32) (x2 : Vec F S128x32 .f32) (x3 : Vec F S32x1 .f32) (x4 : Vec F S32x8 .f32) (x5 : Vec F S8x1 .f32)
    (hw : Chk (F := F) x1) (o : Vec F S3x1008x128 .f32) : Vec F S3x1008x128 .f32 :=
  foldOut x0 (k0_pay21 (F := F) x1) (etOf x0 x2 x3 x4 x5) _ _ hw (baseW (firstW (k0_pay21 (F := F) x1))) (k0_t1_loop (firstW (k0_pay21 (F := F) x1)) (lastW (k0_pay21 (F := F) x1))).trips o

/-- The denominators after one block from `d`. -/
def blkDen (x0 : Vec F S6400x128 .f32) (x1 : Vec F S1x1x6400 .i32) (x2 : Vec F S128x32 .f32) (x3 : Vec F S32x1 .f32) (x4 : Vec F S32x8 .f32) (x5 : Vec F S8x1 .f32)
    (hw : Chk (F := F) x1) (d : Vec F S1008x8 .f32) : Vec F S1008x8 .f32 :=
  foldDen (k0_pay21 (F := F) x1) (etOf x0 x2 x3 x4 x5) _ _ hw (baseW (firstW (k0_pay21 (F := F) x1))) (k0_t1_loop (firstW (k0_pay21 (F := F) x1)) (lastW (k0_pay21 (F := F) x1))).trips d

abbrev atFirst (i : grid0.Coords) : Prop := (Scalar.cmpi .ne (Scalar.extui (Scalar.cmpi .eq (BitVec.ofNat 32 (i 0).val) 0#32)) 0#32) = 1#1
abbrev atLast (i : grid0.Coords) : Prop := (Scalar.cmpi .ne (Scalar.extui (Scalar.cmpi .eq (BitVec.ofNat 32 (i 0).val) 49#32)) 0#32) = 1#1

/-- The last point's division: each head's sums times the reciprocal of its denominators. -/
def finish (d : Vec F S1008x8 .f32) (o : Vec F S3x1008x128 .f32) : Vec F S3x1008x128 .f32 :=
  let o1 := VecWindow.put o ![0, 0, 0] S1x1008x128.size (k0_pay16 d (VecWindow.window o ![0, 0, 0] S1x1008x128.size inb_S3x1008x128_S1x1008x128_0_0_0))
  let o2 := VecWindow.put o1 ![1, 0, 0] S1x1008x128.size (k0_pay17 d (VecWindow.window o1 ![1, 0, 0] S1x1008x128.size inb_S3x1008x128_S1x1008x128_1_0_0))
  VecWindow.put o2 ![2, 0, 0] S1x1008x128.size (k0_pay18 d (VecWindow.window o2 ![2, 0, 0] S1x1008x128.size inb_S3x1008x128_S1x1008x128_2_0_0))

/-- What the last point's three stores leave over earlier ones, read through the memref. -/
theorem read_finish {κ : Kind} {sp : Space} (v : View sig κ sp S3x1008x128 .f32) (f : v.ty.Contents (Elt F)) (B : List (View.Piece (Elt F) S3x1008x128 .f32)) (d : Vec F S1008x8 .f32) :
    let R0 := Rect.unit (s := S3x1008x128) ![0, 0, 0] S1x1008x128.size inb_S3x1008x128_S1x1008x128_0_0_0
    let R1 := Rect.unit (s := S3x1008x128) ![1, 0, 0] S1x1008x128.size inb_S3x1008x128_S1x1008x128_1_0_0
    let R2 := Rect.unit (s := S3x1008x128) ![2, 0, 0] S1x1008x128.size inb_S3x1008x128_S1x1008x128_2_0_0
    let L0 : List (View.Piece (Elt F) S3x1008x128 .f32) := ⟨R0, k0_pay16 d (v.readAt (Elt F) R0.toLoadRect (v.writes (Elt F) f B))⟩ :: B
    let L1 : List (View.Piece (Elt F) S3x1008x128 .f32) := ⟨R1, k0_pay17 d (v.readAt (Elt F) R1.toLoadRect (v.writes (Elt F) f L0))⟩ :: L0
    let L2 : List (View.Piece (Elt F) S3x1008x128 .f32) := ⟨R2, k0_pay18 d (v.readAt (Elt F) R2.toLoadRect (v.writes (Elt F) f L1))⟩ :: L1
    v.read (Elt F) (v.writes (Elt F) f L2) = finish d (v.read (Elt F) (v.writes (Elt F) f B)) := by
  intro R0 R1 R2 L0 L1 L2
  have e0 : v.read (Elt F) (v.writes (Elt F) f L0) = VecWindow.put (v.read (Elt F) (v.writes (Elt F) f B)) ![0, 0, 0] S1x1008x128.size
      (k0_pay16 d (VecWindow.window (v.read (Elt F) (v.writes (Elt F) f B)) ![0, 0, 0] S1x1008x128.size inb_S3x1008x128_S1x1008x128_0_0_0)) :=
    (View.read_writes_cons_put _ _ inb_S3x1008x128_S1x1008x128_0_0_0 _ _ rfl).trans rfl
  have e1 : v.read (Elt F) (v.writes (Elt F) f L1) = VecWindow.put (v.read (Elt F) (v.writes (Elt F) f L0)) ![1, 0, 0] S1x1008x128.size
      (k0_pay17 d (VecWindow.window (v.read (Elt F) (v.writes (Elt F) f L0)) ![1, 0, 0] S1x1008x128.size inb_S3x1008x128_S1x1008x128_1_0_0)) :=
    (View.read_writes_cons_put _ _ inb_S3x1008x128_S1x1008x128_1_0_0 _ _ rfl).trans rfl
  refine (View.read_writes_cons_put _ _ inb_S3x1008x128_S1x1008x128_2_0_0 _ _ rfl).trans ?_
  rw [View.readAt_unit _ _ inb_S3x1008x128_S1x1008x128_2_0_0 rfl inb_S3x1008x128_S1x1008x128_2_0_0, e1, e0]
  rfl

set_option maxHeartbeats 400000 in
theorem body_first (c : Dev nD) (i : grid0.Coords) (arg1 : Memref sig .tc .vmem S6400x128 .f32) (harg1 : arg1.IsWhole) (arg2 : Memref sig .tc .vmem S1x1x6400 .i32) (harg2 : arg2.IsWhole) (arg3 : Memref sig .tc .vmem S128x32 .f32) (harg3 : arg3.IsWhole) (arg4 : Memref sig .tc .vmem S32x1 .f32) (harg4 : arg4.IsWhole) (arg5 : Memref sig .tc .vmem S32x8 .f32) (harg5 : arg5.IsWhole) (arg6 : Memref sig .tc .vmem S8x1 .f32) (harg6 : arg6.IsWhole) (arg7 : Memref sig .tc .vmem S3x1008x128 .f32) (harg7 : arg7.IsWhole) (arg8 : Memref sig .tc .vmem S1008x8 .f32) (harg8 : arg8.IsWhole) (hc0 : atFirst i) (hc1 : ¬atLast i)
    (x0 : Vec F S6400x128 .f32) (x1 : Vec F S1x1x6400 .i32) (x2 : Vec F S128x32 .f32) (x3 : Vec F S32x1 .f32) (x4 : Vec F S32x8 .f32) (x5 : Vec F S8x1 .f32) (o : Vec F S3x1008x128 .f32) (d : Vec F S1008x8 .f32)
    (hw : Chk (F := F) x1) (h2 : NoTail (F := F) x1)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare o ∗ owns (c : Thread nD τ) arg8 fullShare d
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (blkOut x0 x1 x2 x3 x4 x5 hw (k0_pay19 (F := F))) ∗ owns (c : Thread nD τ) arg8 fullShare (blkDen x0 x1 x2 x3 x4 x5 hw (k0_pay20 (F := F)))) -∗ K ⟨⟩))
      ⊢ wp frame (wpE (defs₀ (F := F)) Variants.none c none) E (cc0__attn_body i arg1 harg1 arg2 harg2 arg3 harg3 arg4 harg4 arg5 harg5 arg6 harg6 arg7 harg7 arg8 harg8) K := by
  simp only [cc0__attn_body_eq_skeleton]; unfold cc0__attn_body_skel
  simp only [k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0
  have e0 : arg1.view.readAt (Elt F) (Rect.unit ![0, 0] S6400x128.size inb_S6400x128_S6400x128_0_0).toLoadRect (harg1.unread x0) = x0 := by
    rw [View.readAt_full, harg1.read_unread]
  have e1 : arg2.view.readAt (Elt F) (Rect.unit ![0, 0, 0] S1x1x6400.size inb_S1x1x6400_S1x1x6400_0_0_0).toLoadRect (harg2.unread x1) = x1 := by
    rw [View.readAt_full, harg2.read_unread]
  have e2 : arg3.view.readAt (Elt F) (Rect.unit ![0, 0] S128x32.size inb_S128x32_S128x32_0_0).toLoadRect (harg3.unread x2) = x2 := by
    rw [View.readAt_full, harg3.read_unread]
  have e3 : arg4.view.readAt (Elt F) (Rect.unit ![0, 0] S32x1.size inb_S32x1_S32x1_0_0).toLoadRect (harg4.unread x3) = x3 := by
    rw [View.readAt_full, harg4.read_unread]
  have e4 : arg5.view.readAt (Elt F) (Rect.unit ![0, 0] S32x8.size inb_S32x8_S32x8_0_0).toLoadRect (harg5.unread x4) = x4 := by
    rw [View.readAt_full, harg5.read_unread]
  have e5 : arg6.view.readAt (Elt F) (Rect.unit ![0, 0] S8x1.size inb_S8x1_S8x1_0_0).toLoadRect (harg6.unread x5) = x5 := by
    rw [View.readAt_full, harg6.read_unread]
  have hw' : Chk (F := F) (arg2.view.readAt (Elt F) (Rect.unit ![0, 0, 0] S1x1x6400.size inb_S1x1x6400_S1x1x6400_0_0_0).toLoadRect (harg2.unread x1)) := by
    rw [e1]; exact hw
  have h2' : NoTail (F := F) (arg2.view.readAt (Elt F) (Rect.unit ![0, 0, 0] S1x1x6400.size inb_S1x1x6400_S1x1x6400_0_0_0).toLoadRect (harg2.unread x1)) := by
    rw [e1]; exact h2
  sl_exec (disch := first | sl_exact hc0 | sl_exact hc1 | exact hw')
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; rotate_left; iexact H6
    ipureintro
    refine ((read_loops_on _ _ _ _ _ _ _ _ _ _ _ _ _ _ _ _ _ _ _ _ _ _ _ _ _ _ _ _ _ _ _ _ _ _ _ _ ?_ ?_).1).trans ?_
    · exact le_rfl
    · sl_unfold_words; exact h2
    · sl_unfold_words
      rw [View.read_writes_full]
      rfl
  · iexists _; isplitr; rotate_left; iexact HS0
    ipureintro
    refine ((read_loops_on _ _ _ _ _ _ _ _ _ _ _ _ _ _ _ _ _ _ _ _ _ _ _ _ _ _ _ _ _ _ _ _ _ _ _ _ ?_ ?_).2).trans ?_
    · exact le_rfl
    · sl_unfold_words; exact h2
    · sl_unfold_words
      rw [View.read_writes_full]
      rfl

set_option maxHeartbeats 200000 in
theorem body_mid (c : Dev nD) (i : grid0.Coords) (arg1 : Memref sig .tc .vmem S6400x128 .f32) (harg1 : arg1.IsWhole) (arg2 : Memref sig .tc .vmem S1x1x6400 .i32) (harg2 : arg2.IsWhole) (arg3 : Memref sig .tc .vmem S128x32 .f32) (harg3 : arg3.IsWhole) (arg4 : Memref sig .tc .vmem S32x1 .f32) (harg4 : arg4.IsWhole) (arg5 : Memref sig .tc .vmem S32x8 .f32) (harg5 : arg5.IsWhole) (arg6 : Memref sig .tc .vmem S8x1 .f32) (harg6 : arg6.IsWhole) (arg7 : Memref sig .tc .vmem S3x1008x128 .f32) (harg7 : arg7.IsWhole) (arg8 : Memref sig .tc .vmem S1008x8 .f32) (harg8 : arg8.IsWhole) (hc0 : ¬atFirst i) (hc1 : ¬atLast i)
    (x0 : Vec F S6400x128 .f32) (x1 : Vec F S1x1x6400 .i32) (x2 : Vec F S128x32 .f32) (x3 : Vec F S32x1 .f32) (x4 : Vec F S32x8 .f32) (x5 : Vec F S8x1 .f32) (o : Vec F S3x1008x128 .f32) (d : Vec F S1008x8 .f32)
    (hw : Chk (F := F) x1) (h2 : NoTail (F := F) x1)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare o ∗ owns (c : Thread nD τ) arg8 fullShare d
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (blkOut x0 x1 x2 x3 x4 x5 hw o) ∗ owns (c : Thread nD τ) arg8 fullShare (blkDen x0 x1 x2 x3 x4 x5 hw d)) -∗ K ⟨⟩))
      ⊢ wp frame (wpE (defs₀ (F := F)) Variants.none c none) E (cc0__attn_body i arg1 harg1 arg2 harg2 arg3 harg3 arg4 harg4 arg5 harg5 arg6 harg6 arg7 harg7 arg8 harg8) K := by
  simp only [cc0__attn_body_eq_skeleton]; unfold cc0__attn_body_skel
  simp only [k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0
  have e0 : arg1.view.readAt (Elt F) (Rect.unit ![0, 0] S6400x128.size inb_S6400x128_S6400x128_0_0).toLoadRect (harg1.unread x0) = x0 := by
    rw [View.readAt_full, harg1.read_unread]
  have e1 : arg2.view.readAt (Elt F) (Rect.unit ![0, 0, 0] S1x1x6400.size inb_S1x1x6400_S1x1x6400_0_0_0).toLoadRect (harg2.unread x1) = x1 := by
    rw [View.readAt_full, harg2.read_unread]
  have e2 : arg3.view.readAt (Elt F) (Rect.unit ![0, 0] S128x32.size inb_S128x32_S128x32_0_0).toLoadRect (harg3.unread x2) = x2 := by
    rw [View.readAt_full, harg3.read_unread]
  have e3 : arg4.view.readAt (Elt F) (Rect.unit ![0, 0] S32x1.size inb_S32x1_S32x1_0_0).toLoadRect (harg4.unread x3) = x3 := by
    rw [View.readAt_full, harg4.read_unread]
  have e4 : arg5.view.readAt (Elt F) (Rect.unit ![0, 0] S32x8.size inb_S32x8_S32x8_0_0).toLoadRect (harg5.unread x4) = x4 := by
    rw [View.readAt_full, harg5.read_unread]
  have e5 : arg6.view.readAt (Elt F) (Rect.unit ![0, 0] S8x1.size inb_S8x1_S8x1_0_0).toLoadRect (harg6.unread x5) = x5 := by
    rw [View.readAt_full, harg6.read_unread]
  have hw' : Chk (F := F) (arg2.view.readAt (Elt F) (Rect.unit ![0, 0, 0] S1x1x6400.size inb_S1x1x6400_S1x1x6400_0_0_0).toLoadRect (harg2.unread x1)) := by
    rw [e1]; exact hw
  have h2' : NoTail (F := F) (arg2.view.readAt (Elt F) (Rect.unit ![0, 0, 0] S1x1x6400.size inb_S1x1x6400_S1x1x6400_0_0_0).toLoadRect (harg2.unread x1)) := by
    rw [e1]; exact h2
  sl_exec (disch := first | sl_exact hc0 | sl_exact hc1 | exact hw')
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; rotate_left; iexact H6
    ipureintro
    refine ((read_loops _ _ _ _ _ _ _ _ _ _ _ _ _ _ _ _ _ _ _ _ _ _ _ _ _ _ _ _ _ _ _ _ _ _ ?_ ?_).1).trans ?_
    · exact le_rfl
    · sl_unfold_words; exact h2
    · sl_unfold_words
      rw [harg7.read_unread]
      rfl
  · iexists _; isplitr; rotate_left; iexact HS0
    ipureintro
    refine ((read_loops _ _ _ _ _ _ _ _ _ _ _ _ _ _ _ _ _ _ _ _ _ _ _ _ _ _ _ _ _ _ _ _ _ _ ?_ ?_).2).trans ?_
    · exact le_rfl
    · sl_unfold_words; exact h2
    · sl_unfold_words
      rw [harg8.read_unread]
      rfl

set_option maxHeartbeats 400000 in
theorem body_last (c : Dev nD) (i : grid0.Coords) (arg1 : Memref sig .tc .vmem S6400x128 .f32) (harg1 : arg1.IsWhole) (arg2 : Memref sig .tc .vmem S1x1x6400 .i32) (harg2 : arg2.IsWhole) (arg3 : Memref sig .tc .vmem S128x32 .f32) (harg3 : arg3.IsWhole) (arg4 : Memref sig .tc .vmem S32x1 .f32) (harg4 : arg4.IsWhole) (arg5 : Memref sig .tc .vmem S32x8 .f32) (harg5 : arg5.IsWhole) (arg6 : Memref sig .tc .vmem S8x1 .f32) (harg6 : arg6.IsWhole) (arg7 : Memref sig .tc .vmem S3x1008x128 .f32) (harg7 : arg7.IsWhole) (arg8 : Memref sig .tc .vmem S1008x8 .f32) (harg8 : arg8.IsWhole) (hc0 : ¬atFirst i) (hc1 : atLast i)
    (x0 : Vec F S6400x128 .f32) (x1 : Vec F S1x1x6400 .i32) (x2 : Vec F S128x32 .f32) (x3 : Vec F S32x1 .f32) (x4 : Vec F S32x8 .f32) (x5 : Vec F S8x1 .f32) (o : Vec F S3x1008x128 .f32) (d : Vec F S1008x8 .f32)
    (hw : Chk (F := F) x1) (h2 : NoTail (F := F) x1)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare o ∗ owns (c : Thread nD τ) arg8 fullShare d
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (finish (blkDen x0 x1 x2 x3 x4 x5 hw d) (blkOut x0 x1 x2 x3 x4 x5 hw o)) ∗ owns (c : Thread nD τ) arg8 fullShare (blkDen x0 x1 x2 x3 x4 x5 hw d)) -∗ K ⟨⟩))
      ⊢ wp frame (wpE (defs₀ (F := F)) Variants.none c none) E (cc0__attn_body i arg1 harg1 arg2 harg2 arg3 harg3 arg4 harg4 arg5 harg5 arg6 harg6 arg7 harg7 arg8 harg8) K := by
  simp only [cc0__attn_body_eq_skeleton]; unfold cc0__attn_body_skel
  simp only [k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0
  have e0 : arg1.view.readAt (Elt F) (Rect.unit ![0, 0] S6400x128.size inb_S6400x128_S6400x128_0_0).toLoadRect (harg1.unread x0) = x0 := by
    rw [View.readAt_full, harg1.read_unread]
  have e1 : arg2.view.readAt (Elt F) (Rect.unit ![0, 0, 0] S1x1x6400.size inb_S1x1x6400_S1x1x6400_0_0_0).toLoadRect (harg2.unread x1) = x1 := by
    rw [View.readAt_full, harg2.read_unread]
  have e2 : arg3.view.readAt (Elt F) (Rect.unit ![0, 0] S128x32.size inb_S128x32_S128x32_0_0).toLoadRect (harg3.unread x2) = x2 := by
    rw [View.readAt_full, harg3.read_unread]
  have e3 : arg4.view.readAt (Elt F) (Rect.unit ![0, 0] S32x1.size inb_S32x1_S32x1_0_0).toLoadRect (harg4.unread x3) = x3 := by
    rw [View.readAt_full, harg4.read_unread]
  have e4 : arg5.view.readAt (Elt F) (Rect.unit ![0, 0] S32x8.size inb_S32x8_S32x8_0_0).toLoadRect (harg5.unread x4) = x4 := by
    rw [View.readAt_full, harg5.read_unread]
  have e5 : arg6.view.readAt (Elt F) (Rect.unit ![0, 0] S8x1.size inb_S8x1_S8x1_0_0).toLoadRect (harg6.unread x5) = x5 := by
    rw [View.readAt_full, harg6.read_unread]
  have hw' : Chk (F := F) (arg2.view.readAt (Elt F) (Rect.unit ![0, 0, 0] S1x1x6400.size inb_S1x1x6400_S1x1x6400_0_0_0).toLoadRect (harg2.unread x1)) := by
    rw [e1]; exact hw
  have h2' : NoTail (F := F) (arg2.view.readAt (Elt F) (Rect.unit ![0, 0, 0] S1x1x6400.size inb_S1x1x6400_S1x1x6400_0_0_0).toLoadRect (harg2.unread x1)) := by
    rw [e1]; exact h2
  sl_exec (disch := first | sl_exact hc0 | sl_exact hc1 | exact hw')
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; rotate_left; iexact H6
    ipureintro
    refine (read_finish arg7.view _ _ _).trans (congrArg₂ finish ?_ ?_)
    · sl_unfold_words
      rw [View.readAt_full]
      refine ((read_loops _ _ _ _ _ _ _ _ _ _ _ _ _ _ _ _ _ _ _ _ _ _ _ _ _ _ _ _ _ _ _ _ _ _ ?_ ?_).2).trans ?_
      · exact le_rfl
      · exact h2
      · rw [harg8.read_unread]
        rfl
    · refine ((read_loops _ _ _ _ _ _ _ _ _ _ _ _ _ _ _ _ _ _ _ _ _ _ _ _ _ _ _ _ _ _ _ _ _ _ ?_ ?_).1).trans ?_
      · exact le_rfl
      · sl_unfold_words; exact h2
      · sl_unfold_words
        rw [harg7.read_unread]
        rfl
  · iexists _; isplitr; rotate_left; iexact HS0
    ipureintro
    refine ((read_loops _ _ _ _ _ _ _ _ _ _ _ _ _ _ _ _ _ _ _ _ _ _ _ _ _ _ _ _ _ _ _ _ _ _ ?_ ?_).2).trans ?_
    · exact le_rfl
    · sl_unfold_words; exact h2
    · sl_unfold_words
      rw [harg8.read_unread]
      rfl

end Cert.KernelIdeal.Hand
-- ==== Proof.KernelIdeal.Owners.lean ====
/- The least and the greatest owner of a block, as the words the kernel reduces them to: between them lies every owner
   of the block, and both are segment numbers when the owners are. -/
module

public import proofs.«01_k».proof.Proof.KernelIdeal.Body
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- Every owner of the block is a segment number. -/
def Good (ow : IVec S1x6400 32) : Prop := ∀ j, (ow j).toNat < 1000

theorem toInt_minsi (x y : BitVec 32) : (IntOp.minsi x y).toInt = min x.toInt y.toInt := by
  unfold IntOp.minsi
  split
  · rename_i h; rw [BitVec.slt_iff_toInt_lt] at h; omega
  · rename_i h; rw [BitVec.slt_iff_toInt_lt] at h; omega

theorem toInt_maxsi (x y : BitVec 32) : (IntOp.maxsi x y).toInt = max x.toInt y.toInt := by
  unfold IntOp.maxsi
  split
  · rename_i h; rw [BitVec.slt_iff_toInt_lt] at h; omega
  · rename_i h; rw [BitVec.slt_iff_toInt_lt] at h; omega

/-- A signed minimum is below each of its words, and above any bound they are all above. -/
theorem fold_min {ι : Type} [DecidableEq ι] (f : ι → BitVec 32) (b : BitVec 32) (c : ℤ) (hb : c ≤ b.toInt) (s : Finset ι) (hf : ∀ i ∈ s, c ≤ (f i).toInt) :
    c ≤ (s.fold IKind.minsi.op b f).toInt ∧ ∀ i ∈ s, (s.fold IKind.minsi.op b f).toInt ≤ (f i).toInt := by
  induction s using Finset.induction_on with
  | empty => exact ⟨hb, fun i hi => absurd hi (Finset.notMem_empty i)⟩
  | insert a s ha ih =>
    obtain ⟨h1, h2⟩ := ih fun i hi => hf i (Finset.mem_insert_of_mem hi)
    rw [Finset.fold_insert ha, show ∀ x y, (IKind.minsi.op x y).toInt = min x.toInt y.toInt from toInt_minsi]
    refine ⟨le_min (hf a (Finset.mem_insert_self a s)) h1, fun i hi => ?_⟩
    rcases Finset.mem_insert.1 hi with rfl | hi
    · exact min_le_left _ _
    · exact (min_le_right _ _).trans (h2 i hi)

/-- A signed maximum is above each of its words, and below any bound they are all below. -/
theorem fold_max {ι : Type} [DecidableEq ι] (f : ι → BitVec 32) (b : BitVec 32) (c : ℤ) (hb : b.toInt ≤ c) (s : Finset ι) (hf : ∀ i ∈ s, (f i).toInt ≤ c) :
    (s.fold IKind.maxsi.op b f).toInt ≤ c ∧ ∀ i ∈ s, (f i).toInt ≤ (s.fold IKind.maxsi.op b f).toInt := by
  induction s using Finset.induction_on with
  | empty => exact ⟨hb, fun i hi => absurd hi (Finset.notMem_empty i)⟩
  | insert a s ha ih =>
    obtain ⟨h1, h2⟩ := ih fun i hi => hf i (Finset.mem_insert_of_mem hi)
    rw [Finset.fold_insert ha, show ∀ x y, (IKind.maxsi.op x y).toInt = max x.toInt y.toInt from toInt_maxsi]
    refine ⟨max_le (hf a (Finset.mem_insert_self a s)) h1, fun i hi => ?_⟩
    rcases Finset.mem_insert.1 hi with rfl | hi
    · exact le_max_left _ _
    · exact (h2 i hi).trans (le_max_right _ _)

/-- A row of owners laid out with one more unit axis. -/
theorem cast_owners (ow : IVec S1x6400 32) (i : S1x1x6400.Idx) :
    shapeCast S1x1x6400 ow shapeCasts_S1x6400_S1x1x6400 i = ow (ix2 0 (i 2)) := by
  simp only [pointwise]

/-- The one word of a one-word vector laid out in three axes. -/
theorem read_one (r : IVec S1 32) : extractAt ![0, 0, 0] (shapeCast S1x1x1 r shapeCasts_S1_S1x1x1) inpos_S1x1x1_p0_0_0 = r (ix1 0) := by
  unfold extractAt
  simp only [pointwise]

theorem toInt_of_good {ow : IVec S1x6400 32} (h : Good ow) (j : S1x6400.Idx) : (ow j).toInt = (ow j).toNat := by
  have := h j
  rw [BitVec.toInt_eq_toNat_cond]; split <;> omega

theorem firstW_bounds {ow : IVec S1x6400 32} (h : Good ow) :
    0 ≤ (firstW ow).toInt ∧ ∀ n : Fin 6400, (firstW ow).toInt ≤ (ow (ix2 0 n)).toInt := by
  have e : firstW ow = (Finset.univ.filter fun i => reduces_S1x1x6400_S1.drop i = ix1 0).fold IKind.minsi.op 2147483647#32
      (shapeCast S1x1x6400 ow shapeCasts_S1x6400_S1x1x6400) := by
    refine Eq.trans ?_ (multiReductionI_eq_fold IKind.minsi _ 2147483647#32 reduces_S1x1x6400_S1 rfl (ix1 0))
    exact read_one _
  obtain ⟨h1, h2⟩ := fold_min (shapeCast S1x1x6400 ow shapeCasts_S1x6400_S1x1x6400) 2147483647#32 0 (by decide)
    (Finset.univ.filter fun i => reduces_S1x1x6400_S1.drop i = ix1 0) (fun i _ => by rw [cast_owners, toInt_of_good h]; omega)
  rw [← e] at h1 h2
  refine ⟨h1, fun n => ?_⟩
  have := h2 (ix3 0 0 n) (Finset.mem_filter.2 ⟨Finset.mem_univ _, funext fun a => by fin_cases a; exact Subsingleton.elim (α := Fin 1) _ _⟩)
  rwa [cast_owners] at this

theorem lastW_bounds {ow : IVec S1x6400 32} (h : Good ow) :
    (lastW ow).toInt ≤ 999 ∧ ∀ n : Fin 6400, (ow (ix2 0 n)).toInt ≤ (lastW ow).toInt := by
  have e : lastW ow = (Finset.univ.filter fun i => reduces_S1x1x6400_S1.drop i = ix1 0).fold IKind.maxsi.op 2147483648#32
      (shapeCast S1x1x6400 ow shapeCasts_S1x6400_S1x1x6400) := by
    refine Eq.trans ?_ (multiReductionI_eq_fold IKind.maxsi _ 2147483648#32 reduces_S1x1x6400_S1 rfl (ix1 0))
    exact read_one _
  obtain ⟨h1, h2⟩ := fold_max (shapeCast S1x1x6400 ow shapeCasts_S1x6400_S1x1x6400) 2147483648#32 999 (by decide)
    (Finset.univ.filter fun i => reduces_S1x1x6400_S1.drop i = ix1 0)
    (fun i _ => by rw [cast_owners, toInt_of_good h]; have := h (ix2 0 (i 2)); omega)
  rw [← e] at h1 h2
  refine ⟨h1, fun n => ?_⟩
  have := h2 (ix3 0 0 n) (Finset.mem_filter.2 ⟨Finset.mem_univ _, funext fun a => by fin_cases a; exact Subsingleton.elim (α := Fin 1) _ _⟩)
  rwa [cast_owners] at this

theorem toNat_of_toInt_nonneg {a : BitVec 32} (h : 0 ≤ a.toInt) : (a.toNat : ℤ) = a.toInt := by
  have := a.isLt
  rw [BitVec.toInt_eq_toNat_cond] at h ⊢
  split at h <;> split <;> omega

/-- Every owner of the block lies between the two words, and the greater is a segment number. -/
theorem between {ow : IVec S1x6400 32} (h : Good ow) (n : Fin 6400) :
    (firstW ow).toNat ≤ (ow (ix2 0 n)).toNat ∧ (ow (ix2 0 n)).toNat ≤ (lastW ow).toNat ∧ (lastW ow).toNat < 1000 := by
  obtain ⟨a1, a2⟩ := firstW_bounds h
  obtain ⟨b1, b2⟩ := lastW_bounds h
  have a := a2 n; have b := b2 n
  rw [toInt_of_good h] at a b
  have e1 := toNat_of_toInt_nonneg a1
  have e2 := toNat_of_toInt_nonneg (a := lastW ow) (by omega)
  omega

theorem first_le_last {ow : IVec S1x6400 32} (h : Good ow) : (firstW ow).toNat ≤ (lastW ow).toNat :=
  (between h 0).1.trans (between h 0).2.1

theorem last_lt {ow : IVec S1x6400 32} (h : Good ow) : (lastW ow).toNat < 1000 := (between h 0).2.2

/-- What the kernel assumes of a block holds when its owners are segment numbers, -/
theorem chk_of_good {x1 : Vec F S1x1x6400 .i32} (h : Good (k0_pay21 (F := F) x1)) : Chk (F := F) x1 :=
  chk_of_le (first_le_last h) (last_lt h)

/-- and its second loop makes no trip. -/
theorem noTail_of_good {x1 : Vec F S1x1x6400 .i32} (h : Good (k0_pay21 (F := F) x1)) : NoTail (F := F) x1 :=
  trips2 (first_le_last h) (last_lt h)

end Cert.KernelIdeal.Hand
-- ==== Proof.KernelIdeal.Launched.lean ====
/- The launch: what the two accumulators hold after every grid point, the body's obligation at each of them, and the
   run of the whole program, for inputs whose owners are segment numbers. -/
module

public import proofs.«01_k».proof.Proof.KernelIdeal.Owners
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch is taken at the first point only, -/
theorem first_iff : ∀ t : Fin cfg0.N, atFirst (grid0.coords t) ↔ t.val = 0 :=
  (fun t => by
    have ht : t.val < 50 := Nat.lt_of_lt_of_eq t.isLt N_0
    have e0 : (grid0.coords t 0).val = t.val / 1 % 50 := Pipeline.Grid.coords_val t 0 (by decide) rfl
    rw [show (t.val = 0) ↔ (t.val % 50 = 0) by omega]
    simp only [atFirst, e0]
    word_cmp
   : ∀ t : Fin grid0.N, atFirst (grid0.coords t) ↔ t.val = 0)

/-- the second at the last point only. -/
theorem last_iff : ∀ t : Fin cfg0.N, atLast (grid0.coords t) ↔ t.val = 49 :=
  (fun t => by
    have ht : t.val < 50 := Nat.lt_of_lt_of_eq t.isLt N_0
    have e0 : (grid0.coords t 0).val = t.val / 1 % 50 := Pipeline.Grid.coords_val t 0 (by decide) rfl
    rw [show (t.val = 49) ↔ (t.val % 50 = 49) by omega]
    simp only [atLast, e0]
    word_cmp
   : ∀ t : Fin grid0.N, atLast (grid0.coords t) ↔ t.val = 49)

/-- The scratch the denominators live in. -/
abbrev denM : Memref sig .tc .vmem S1008x8 .f32 := Memref.whole cc0_scratch0

/-- What the launch hands the region: the scratch at anything, the generator at some state. -/
theorem region_eq (c : Dev nD) :
    (Pipeline.ΦA spec0 c : sProp 𝕄) = iprop(iprop((∃ d, owns (c : Thread nD τ) denM fullShare d)) ∗ (∃ r, prngReg c r)) := by
  unfold Pipeline.ΦA; rw [scopedRest0_eq]; simp only [denM, owns_whole]; try rfl

variable (m : (ℓ : Loc nD τ sig) → Buf (Elt F) ℓ) (ρ : Dev nD → PrngReg)

/-- Every owner the region finds, block by block, is a segment number. -/
def InRange : Prop := ∀ (c : Dev nD) (t : Fin cfg0.N), Good (k0_pay21 (F := F) (iblk m c 1 t))

variable (hg : InRange m)

/-- The sums after point `t`'s windows, from `o`, -/
def sumStep (c : Dev nD) (t : Fin cfg0.N) (o : Vec F S3x1008x128 .f32) : Vec F S3x1008x128 .f32 :=
  blkOut (iblk m c 0 t) (iblk m c 1 t) (iblk m c 2 t) (iblk m c 3 t) (iblk m c 4 t) (iblk m c 5 t) (chk_of_good (hg c t)) o

/-- and the denominators, from `d`. -/
def denStep (c : Dev nD) (t : Fin cfg0.N) (d : Vec F S1008x8 .f32) : Vec F S1008x8 .f32 :=
  blkDen (iblk m c 0 t) (iblk m c 1 t) (iblk m c 2 t) (iblk m c 3 t) (iblk m c 4 t) (iblk m c 5 t) (chk_of_good (hg c t)) d

/-- The denominators after point `n`, -/
def denAt (c : Dev nD) : (n : ℕ) → n < cfg0.N → Vec F S1008x8 .f32
  | 0, hn => denStep m hg c ⟨0, hn⟩ (k0_pay20 (F := F))
  | n + 1, hn => denStep m hg c ⟨n + 1, hn⟩ (denAt c n (Nat.lt_of_succ_lt hn))

/-- and the sums before the division. -/
def sumAt (c : Dev nD) : (n : ℕ) → n < cfg0.N → Vec F S3x1008x128 .f32
  | 0, hn => sumStep m hg c ⟨0, hn⟩ (k0_pay19 (F := F))
  | n + 1, hn => sumStep m hg c ⟨n + 1, hn⟩ (sumAt c n (Nat.lt_of_succ_lt hn))

/-- What the output's buffer holds after point `n`: the sums, divided at the last point. -/
def outAt (c : Dev nD) (n : ℕ) (hn : n < cfg0.N) : Vec F S3x1008x128 .f32 :=
  if n = 49 then finish (denAt m hg c n hn) (sumAt m hg c n hn) else sumAt m hg c n hn

theorem denAt_zero (c : Dev nD) (t : Fin cfg0.N) (h : t.val = 0) : denAt m hg c t.val t.isLt = denStep m hg c t (k0_pay20 (F := F)) := by
  obtain ⟨n, hn⟩ := t; dsimp only at h; subst h; rfl

theorem sumAt_zero (c : Dev nD) (t : Fin cfg0.N) (h : t.val = 0) : sumAt m hg c t.val t.isLt = sumStep m hg c t (k0_pay19 (F := F)) := by
  obtain ⟨n, hn⟩ := t; dsimp only at h; subst h; rfl

theorem denAt_pos (c : Dev nD) (t : Fin cfg0.N) (h : t.val ≠ 0) :
    denAt m hg c t.val t.isLt = denStep m hg c t (denAt m hg c (t.val - 1) (Nat.lt_of_le_of_lt (Nat.sub_le _ _) t.isLt)) := by
  obtain ⟨n, hn⟩ := t
  cases n with
  | zero => exact absurd rfl h
  | succ n => rfl

theorem sumAt_pos (c : Dev nD) (t : Fin cfg0.N) (h : t.val ≠ 0) :
    sumAt m hg c t.val t.isLt = sumStep m hg c t (sumAt m hg c (t.val - 1) (Nat.lt_of_le_of_lt (Nat.sub_le _ _) t.isLt)) := by
  obtain ⟨n, hn⟩ := t
  cases n with
  | zero => exact absurd rfl h
  | succ n => rfl

/-- The region's invariant before point `n`: at the first the launch's, afterwards the scratch at the denominators so far. -/
def Inv (c : Dev nD) : (n : ℕ) → n ≤ cfg0.N → sProp 𝕄
  | 0, _ => Pipeline.ΦA spec0 c
  | n + 1, hn => iprop(iprop(owns (c : Thread nD τ) denM fullShare (denAt m hg c n hn)) ∗ (∃ r, prngReg c r))

theorem Inv_zero (c : Dev nD) (n : ℕ) (h : n ≤ cfg0.N) (hz : n = 0) : Inv m hg c n h = Pipeline.ΦA spec0 c := by
  subst hz; rfl

theorem Inv_succ (c : Dev nD) (n : ℕ) (hn : n < cfg0.N) :
    Inv m hg c (n + 1) hn = iprop(iprop(owns (c : Thread nD τ) denM fullShare (denAt m hg c n hn)) ∗ (∃ r, prngReg c r)) := rfl

theorem Inv_pos (c : Dev nD) (n : ℕ) (h : n ≤ cfg0.N) (hz : n ≠ 0) :
    Inv m hg c n h = iprop(iprop(owns (c : Thread nD τ) denM fullShare (denAt m hg c (n - 1) (by omega))) ∗ (∃ r, prngReg c r)) := by
  cases n with
  | zero => exact absurd rfl hz
  | succ n => rfl

/-- The launch's proof data: the arrays as the region finds them, each input's buffer at its block, the output's at
    `outAt`, the invariant `Inv`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m hg c t.val t.isLt
  Φ t := Inv m hg c t.val (Nat.le_of_lt_succ t.isLt)
  q _ := fullShare
  owed _ := 0

theorem A_eq (c : Dev nD) (w : Fin cfg0.W) : (dats m hg 0 c).A w = V m c (Pipeline.arrRef spec0 w) := by
  dsimp only [dats]

theorem Inv_castSucc (c : Dev nD) (t : Fin cfg0.N) :
    (dats m hg 0 c).Φ t.castSucc = Inv m hg c t.val (Nat.le_of_lt t.isLt) := by
  dsimp only [dats]; exact Pipeline.Dat.Φ_castSucc (Inv m hg c) t

theorem after_0 (c : Dev nD) (t : Fin cfg0.N) : (dats m hg 0 c).after 0 t = iblk m c 0 t := by dsimp only [dats]
theorem after_1 (c : Dev nD) (t : Fin cfg0.N) : (dats m hg 0 c).after 1 t = iblk m c 1 t := by dsimp only [dats]
theorem after_2 (c : Dev nD) (t : Fin cfg0.N) : (dats m hg 0 c).after 2 t = iblk m c 2 t := by dsimp only [dats]
theorem after_3 (c : Dev nD) (t : Fin cfg0.N) : (dats m hg 0 c).after 3 t = iblk m c 3 t := by dsimp only [dats]
theorem after_4 (c : Dev nD) (t : Fin cfg0.N) : (dats m hg 0 c).after 4 t = iblk m c 4 t := by dsimp only [dats]
theorem after_5 (c : Dev nD) (t : Fin cfg0.N) : (dats m hg 0 c).after 5 t = iblk m c 5 t := by dsimp only [dats]
theorem after_6 (c : Dev nD) (t : Fin cfg0.N) : (dats m hg 0 c).after 6 t = outAt m hg c t.val t.isLt := by dsimp only [dats]

theorem before_0 (c : Dev nD) (t : Fin cfg0.N) (d) : (dats m hg 0 c).before 0 t d = iblk m c 0 t :=
  before0_0_of m (dats m hg 0 c) (A_eq m hg c 0) (after_0 m hg c) t d
theorem before_1 (c : Dev nD) (t : Fin cfg0.N) (d) : (dats m hg 0 c).before 1 t d = iblk m c 1 t :=
  before0_1_of m (dats m hg 0 c) (A_eq m hg c 1) (after_1 m hg c) t d
theorem before_2 (c : Dev nD) (t : Fin cfg0.N) (d) : (dats m hg 0 c).before 2 t d = iblk m c 2 t :=
  before0_2_of m (dats m hg 0 c) (A_eq m hg c 2) (after_2 m hg c) t d
theorem before_3 (c : Dev nD) (t : Fin cfg0.N) (d) : (dats m hg 0 c).before 3 t d = iblk m c 3 t :=
  before0_3_of m (dats m hg 0 c) (A_eq m hg c 3) (after_3 m hg c) t d
theorem before_4 (c : Dev nD) (t : Fin cfg0.N) (d) : (dats m hg 0 c).before 4 t d = iblk m c 4 t :=
  before0_4_of m (dats m hg 0 c) (A_eq m hg c 4) (after_4 m hg c) t d
theorem before_5 (c : Dev nD) (t : Fin cfg0.N) (d) : (dats m hg 0 c).before 5 t d = iblk m c 5 t :=
  before0_5_of m (dats m hg 0 c) (A_eq m hg c 5) (after_5 m hg c) t d

/-- After the first point the output's buffer still holds what the point before left. -/
theorem before_6 (c : Dev nD) (t : Fin cfg0.N) (h : t.val ≠ 0) (d) :
    (dats m hg 0 c).before 6 t d = sumAt m hg c (t.val - 1) (Nat.lt_of_le_of_lt (Nat.sub_le _ _) t.isLt) := by
  have hN : t.val < 50 := lt_of_lt_of_eq t.isLt (show cfg0.N = 50 from N_0)
  rw [Dat.before_out_kept _ 6 rfl t (by omega) (Bool.eq_false_iff.mpr fun h => by have := (flush0_6 _).mp h; dsimp only at this; omega)
    (fun _ => rfl) (fun _ _ => rfl)]
  dsimp only [dats]
  exact if_neg (by omega)

/-- What the body is called with at point `t`, -/
def bodyPre (c : Dev nD) (t : Fin cfg0.N) : sProp 𝕄 :=
  iprop((dats m hg 0 c).Φ t.castSucc ∗ (dats m hg 0 c).owesAt () t.castSucc
    ∗ (∃ d, owns (c : Thread nD τ) (win0_0.stage (cfg0.slots t 0)) fullShare ((dats m hg 0 c).before 0 t d))
    ∗ (∃ d, owns (c : Thread nD τ) (win0_1.stage (cfg0.slots t 1)) fullShare ((dats m hg 0 c).before 1 t d))
    ∗ (∃ d, owns (c : Thread nD τ) (win0_2.stage (cfg0.slots t 2)) fullShare ((dats m hg 0 c).before 2 t d))
    ∗ (∃ d, owns (c : Thread nD τ) (win0_3.stage (cfg0.slots t 3)) fullShare ((dats m hg 0 c).before 3 t d))
    ∗ (∃ d, owns (c : Thread nD τ) (win0_4.stage (cfg0.slots t 4)) fullShare ((dats m hg 0 c).before 4 t d))
    ∗ (∃ d, owns (c : Thread nD τ) (win0_5.stage (cfg0.slots t 5)) fullShare ((dats m hg 0 c).before 5 t d))
    ∗ (∃ d, owns (c : Thread nD τ) (win0_6.stage (cfg0.slots t 6)) fullShare ((dats m hg 0 c).before 6 t d)))

/-- and what it returns. -/
def bodyPost (c : Dev nD) (t : Fin cfg0.N) : sProp 𝕄 :=
  iprop((dats m hg 0 c).Φ t.succ ∗ (dats m hg 0 c).owesAt () t.succ
    ∗ owns (c : Thread nD τ) (win0_0.stage (cfg0.slots t 0)) fullShare ((dats m hg 0 c).after 0 t)
    ∗ owns (c : Thread nD τ) (win0_1.stage (cfg0.slots t 1)) fullShare ((dats m hg 0 c).after 1 t)
    ∗ owns (c : Thread nD τ) (win0_2.stage (cfg0.slots t 2)) fullShare ((dats m hg 0 c).after 2 t)
    ∗ owns (c : Thread nD τ) (win0_3.stage (cfg0.slots t 3)) fullShare ((dats m hg 0 c).after 3 t)
    ∗ owns (c : Thread nD τ) (win0_4.stage (cfg0.slots t 4)) fullShare ((dats m hg 0 c).after 4 t)
    ∗ owns (c : Thread nD τ) (win0_5.stage (cfg0.slots t 5)) fullShare ((dats m hg 0 c).after 5 t)
    ∗ owns (c : Thread nD τ) (win0_6.stage (cfg0.slots t 6)) fullShare ((dats m hg 0 c).after 6 t))

set_option maxHeartbeats 2000000 in
/-- The body at any point: it is the first, the last or one between, and the body's triple of that case applies. -/
theorem sound_body (c : Dev nD) (t : Fin cfg0.N) :
    bodyPre m hg c t ⊢ wp frame (wpE (defs₀ (F := F)) Variants.none c none) Set.univ (bodyAt0 t) (fun _ => bodyPost m hg c t) := by
  unfold bodyPre bodyPost bodyAt0
  simp only [before_0, before_1, before_2, before_3, before_4, before_5]
  rw [show (dats m hg 0 c).owesAt () t.succ = (dats m hg 0 c).owesAt () t.castSucc from rfl,
    after_0, after_1, after_2, after_3, after_4, after_5, after_6]
  rw [show (dats m hg 0 c).Φ t.succ = Inv m hg c (t.val + 1) t.isLt from rfl, Inv_succ, Inv_castSucc m hg c t]
  by_cases h0 : t.val = 0
  · have h1 : t.val ≠ 49 := by omega
    rw [Inv_zero m hg c _ _ h0, region_eq, denAt_zero m hg c t h0,
      show outAt m hg c t.val t.isLt = sumStep m hg c t (k0_pay19 (F := F)) from (if_neg h1).trans (sumAt_zero m hg c t h0)]
    unfold sumStep denStep
    iintro ⟨⟨⟨%ds, HS0⟩, Hg⟩, Ho, ⟨%d0, H0⟩, ⟨%d1, H1⟩, ⟨%d2, H2⟩, ⟨%d3, H3⟩, ⟨%d4, H4⟩, ⟨%d5, H5⟩, ⟨%d6, H6⟩⟩
    iapply (body_first c (grid0.coords t) _ _ _ _ _ _ _ _ _ _ _ _ _ _ _ _ ((first_iff t).mpr h0) (fun h => h1 ((last_iff t).mp h)) (iblk m c 0 t) (iblk m c 1 t) (iblk m c 2 t) (iblk m c 3 t) (iblk m c 4 t) (iblk m c 5 t) _ _ (chk_of_good (hg c t)) (noTail_of_good (hg c t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    iintro ⟨H0, H1, H2, H3, H4, H5, H6, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Inv_pos m hg c _ _ h0]
    simp only [before_6 m hg c t h0]
    by_cases h1 : t.val = 49
    · rw [show outAt m hg c t.val t.isLt = finish (denAt m hg c t.val t.isLt) (sumAt m hg c t.val t.isLt) from if_pos h1,
        denAt_pos m hg c t h0, sumAt_pos m hg c t h0]
      unfold sumStep denStep
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply (body_last c (grid0.coords t) _ _ _ _ _ _ _ _ _ _ _ _ _ _ _ _ (fun h => h0 ((first_iff t).mp h)) ((last_iff t).mpr h1) (iblk m c 0 t) (iblk m c 1 t) (iblk m c 2 t) (iblk m c 3 t) (iblk m c 4 t) (iblk m c 5 t) _ _ (chk_of_good (hg c t)) (noTail_of_good (hg c t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [show outAt m hg c t.val t.isLt = sumAt m hg c t.val t.isLt from if_neg h1, denAt_pos m hg c t h0, sumAt_pos m hg c t h0]
      unfold sumStep denStep
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply (body_mid c (grid0.coords t) _ _ _ _ _ _ _ _ _ _ _ _ _ _ _ _ (fun h => h0 ((first_iff t).mp h)) (fun h => h1 ((last_iff t).mp h)) (iblk m c 0 t) (iblk m c 1 t) (iblk m c 2 t) (iblk m c 3 t) (iblk m c 4 t) (iblk m c 5 t) _ _ (chk_of_good (hg c t)) (noTail_of_good (hg c t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The body table's row at point `t`'s slots is the body as the launch spells it. -/
theorem defs_row (t : Fin cfg0.N) : defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m hg 0 c) (defs₀ (F := F)) Variants.none () Set.univ := fun t => by
  rw [bigSep_W0, bigSep_W0, defs_row]
  exact triple_restated (sound_body m hg c t) rfl .rfl fun _ => .rfl

theorem region_in (c : Dev nD) : Pipeline.ΦA spec0 c ⊢ (dats m hg 0 c).Φ 0 := by
  rw [show (dats m hg 0 c).Φ 0 = Inv m hg c 0 (Nat.zero_le _) from rfl, Inv_zero m hg c 0 _ rfl]
  try exact Idealize.SL.BI.Entails.refl _

theorem region_out (c : Dev nD) : (dats m hg 0 c).Φ (Fin.last cfg0.N) ⊢ Pipeline.ΦA spec0 c := by
  rw [show (dats m hg 0 c).Φ (Fin.last cfg0.N) = Inv m hg c (Fin.last cfg0.N).val (Nat.le_of_lt_succ (Fin.last cfg0.N).isLt) from rfl,
    Inv_pos m hg c _ _ (by rw [Fin.val_last]; have : cfg0.N = 50 := N_0; omega), region_eq]
  iintro ⟨HS0, Hg⟩
  isplitl [HS0]
  · iexists _; iexact HS0
  iexact Hg

set_option backward.isDefEq.respectTransparency.types false in
set_option maxHeartbeats 800000 in
/-- The whole program's run: it ends, the arrays hold what the proof data says, no semaphore is left counted. -/
theorem run_quiescent : θ_run defs (onTc (τ := τ) (main (F := F))) (s₀ m ρ) (fun r => (Pipeline.FramePost cfgs (dats m hg) 0 (Pipeline.afterTail₀ cfgs (dats m hg) 0 (V0 m) [hostOps1])) r ∧ r.2.sem = fun _ => 0) :=
  Pipeline.θ_run_frame_around_track (Q' := _) cfgs (dats m hg) (0 : Fin 1) launch0 defs₀ Variants.none m ρ main
    (hbody := fun c => (body_obligation m hg c).loose) (hshare := fun c => (dats m hg 0 c).share_full fun _ => rfl)
    (howed := fun _ _ => rfl) (V₀ := V0 m) (opss := [hostOps1]) (hsub := sfx_sub) (hfresh := sfx_fresh) (hkeep := sfx_keeps)
    (hmain := hmain m Variants.none) (hA := A_eq m hg) (hin := region_in m hg) (hout := region_out m hg)

theorem run_main : θ_run defs (onTc (τ := τ) (main (F := F))) (s₀ m ρ) (Pipeline.FramePost cfgs (dats m hg) 0 (Pipeline.afterTail₀ cfgs (dats m hg) 0 (V0 m) [hostOps1])) :=
  (θ_run defs _ _).mono (fun _ h => h.1) (run_quiescent m ρ hg)

include hg in
/-- Every execution ends with the arguments unchanged and every semaphore at zero. -/
theorem frame_in_range : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m hg) (A_eq m hg) (run_main m ρ hg)) ((θ_run defs _ _).mono (fun _ h => h.2) (run_quiescent m ρ hg))

end Cert.KernelIdeal.Hand
-- ==== Proof.KernelIdeal.Blocks.lean ====
/- What the kernel's windows show at a grid point, and what the host computed before, in terms of the arguments. -/
module

public import proofs.«01_k».proof.Proof.KernelIdeal.Launched
public import Idealize.ShloMosaic.Lib.Pipeline.Value
public import Idealize.ShloMosaic.Lib.Pipeline.ValueKit.Point
public import Idealize.ShloMosaic.Lib.Routing.OpsOne

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]
variable (m : (ℓ : Loc nD τ sig) → Buf (Elt F) ℓ)

theorem point_lt (t : Fin cfg0.N) : t.val < 50 := lt_of_lt_of_eq t.isLt (show cfg0.N = 50 from N_0)

theorem index0 : ∀ t : Fin cfg0.N, win0_0.index t = ![t.val, 0] := by decide +kernel
theorem index1 : ∀ t : Fin cfg0.N, win0_1.index t = ![t.val, 0, 0] := by decide +kernel

theorem index2 : ∀ t : Fin cfg0.N, win0_2.index t = ![0, 0] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![0, 0] := by decide +kernel

/-- The atom that row `n` of block `t` is. -/
def atom (t : Fin cfg0.N) (n : Fin 6400) : Fin 320000 := ⟨t.val * 6400 + n.val, by have := point_lt t; omega⟩

theorem rows_at (c : Dev nD) (t : Fin cfg0.N) (n : Fin 6400) (k : Fin 128) :
    (iblk m c 0 t : Vec F S6400x128 .f32) (ix2 n k) = m ((c : Thread nD τ).loc main_arg0) (ix2 (atom t n) k) := by
  blk_ext [iblk, V, index0 t, atom]

/-- The owners as the host lays them out, one row per grid point. -/
theorem owners_entry (c : Dev nD) : (V m c main_v0 : Vec F S50x1x6400 .i32)
    = shapeCast S50x1x6400 (m ((c : Thread nD τ).loc main_arg1) : Vec F S320000 .i32) shapeCasts_S320000_S50x1x6400 := by
  show StableHlo.after hostOps0 _ _ = _
  after_results
  rfl

theorem owners_at (c : Dev nD) (t : Fin cfg0.N) (n : Fin 6400) :
    (iblk m c 1 t : Vec F S1x1x6400 .i32) (ix3 0 0 n) = m ((c : Thread nD τ).loc main_arg1) (ix1 (atom t n)) := by
  have e : (iblk m c 1 t : Vec F S1x1x6400 .i32) (ix3 0 0 n) = (V m c main_v0 : Vec F S50x1x6400 .i32) (ix3 ⟨t.val, point_lt t⟩ 0 n) := by
    blk_ext [iblk, index1 t]
  rw [e, owners_entry]
  simp only [pointwise, atom]

theorem w1_at (c : Dev nD) (t : Fin cfg0.N) (k : Fin 128) (j : Fin 32) :
    (iblk m c 2 t : Vec F S128x32 .f32) (ix2 k j) = m ((c : Thread nD τ).loc main_arg2) (ix2 k j) := by
  blk_ext [iblk, V, index2 t]

theorem b1_at (c : Dev nD) (t : Fin cfg0.N) (j : Fin 32) :
    (iblk m c 3 t : Vec F S32x1 .f32) (ix2 j 0) = m ((c : Thread nD τ).loc main_arg3) (ix1 j) := by
  have e : (iblk m c 3 t : Vec F S32x1 .f32) (ix2 j 0) = (V m c main_v4 : Vec F S32x1 .f32) (ix2 j 0) := by
    blk_ext [iblk, index3 t]
  have e' : (V m c main_v4 : Vec F S32x1 .f32) = shapeCast S32x1 (m ((c : Thread nD τ).loc main_arg3) : Vec F S32 .f32) shapeCasts_S32_S32x1 := by
    show StableHlo.after hostOps0 _ _ = _
    after_results
    rfl
  rw [e, e']
  simp only [pointwise]

theorem w2_at (c : Dev nD) (t : Fin cfg0.N) (j : Fin 32) (h : Fin 3) :
    (iblk m c 4 t : Vec F S32x8 .f32) (ix2 j ⟨h.val, by omega⟩) = m ((c : Thread nD τ).loc main_arg4) (ix2 j h) := by
  have e : (iblk m c 4 t : Vec F S32x8 .f32) (ix2 j ⟨h.val, by omega⟩) = (V m c main_v3 : Vec F S32x8 .f32) (ix2 j ⟨h.val, by omega⟩) := by
    blk_ext [iblk, index4 t]
  have e' : (V m c main_v3 : Vec F S32x8 .f32) = Host.scatter scatter_S32x8_S1_S32x3_01_n_1_0 (fun _ b => b)
      (broadcastInDim S32x8 ![] bcast_S_S32x8 (constant S_ .f32 0x00000000#32)) (broadcastInDim S1 ![] bcast_S_S1 (constantI S_ 32 0#32))
      (m ((c : Thread nD τ).loc main_arg4) : Vec F S32x3 .f32) := by
    show StableHlo.after hostOps0 _ _ = _
    after_results
    try rfl
  rw [e, e']
  have lands : ∀ (k : S32x3.Idx) (r : Fin 32) (q : Fin 8), scatter_S32x8_S1_S32x3_01_n_1_0.resultIdx? k (broadcastInDim S1 ![] bcast_S_S1 (constantI S_ 32 0#32)) = some (ix2 r q)
      ↔ (k 0).val = r.val ∧ (k 1).val = q.val := by
    intro k r q
    refine (Routing.resultIdx?_ix2 (R := 32) (C := 8) _ k _ r q).trans ?_
    rw [show scatter_S32x8_S1_S32x3_01_n_1_0.start k (broadcastInDim S1 ![] bcast_S_S1 (constantI S_ 32 0#32)) 0 = 0 from rfl,
      show scatter_S32x8_S1_S32x3_01_n_1_0.start k (broadcastInDim S1 ![] bcast_S_S1 (constantI S_ 32 0#32)) 1 = 0 from rfl,
      show scatter_S32x8_S1_S32x3_01_n_1_0.window k 0 = (k 0).val from rfl, show scatter_S32x8_S1_S32x3_01_n_1_0.window k 1 = (k 1).val from rfl]
    omega
  refine Routing.scatter_set_hit _ _ _ _ _ _ (fun k hk => ?_) (ix2 j h) ((lands (ix2 j h) j ⟨h.val, by omega⟩).2 ⟨rfl, rfl⟩)
  obtain ⟨h1, h2⟩ := (lands k j ⟨h.val, by omega⟩).1 hk
  refine congrArg _ (funext fun a => ?_)
  match a with
  | ⟨0, _⟩ => exact Fin.ext h1
  | ⟨1, _⟩ => exact Fin.ext h2

theorem b2_at (c : Dev nD) (t : Fin cfg0.N) (h : Fin 3) :
    (iblk m c 5 t : Vec F S8x1 .f32) (ix2 ⟨h.val, by omega⟩ 0) = m ((c : Thread nD τ).loc main_arg5) (ix1 h) := by
  have e : (iblk m c 5 t : Vec F S8x1 .f32) (ix2 ⟨h.val, by omega⟩ 0) = (V m c main_v9 : Vec F S8x1 .f32) (ix2 ⟨h.val, by omega⟩ 0) := by
    blk_ext [iblk, index5 t]
  have e' : (V m c main_v9 : Vec F S8x1 .f32) = Host.scatter scatter_S8x1_S2_S3_0_1_01_0 (fun _ b => b)
      (broadcastInDim S8x1 ![] bcast_S_S8x1 (constant S_ .f32 0x00000000#32))
      (concatenate S2 0 [⟨S1, (broadcastInDim S1 ![] bcast_S_S1 (constantI S_ 32 0#32))⟩, ⟨S1, (broadcastInDim S1 ![] bcast_S_S1 (constantI S_ 32 0#32))⟩] concatenates_S1_S1_S2_d0)
      (m ((c : Thread nD τ).loc main_arg5) : Vec F S3 .f32) := by
    show StableHlo.after hostOps0 _ _ = _
    after_results
    try rfl
  rw [e, e']
  refine (Routing.scatter_column_signed scatter_S8x1_S2_S3_0_1_01_0 (by decide) rfl rfl rfl _ _ _ _).trans ?_
  refine (if_pos ⟨by rfl, by exact Int.natCast_nonneg _, ?_⟩).trans (congrArg _ (congrArg ix1 (Fin.ext ?_)))
  · show (((h.val : ℤ) - 0).toNat) % 3 = h.val
    omega
  · show (h.val : ℤ) < 0 + 3
    omega

end Cert.KernelIdeal.Hand
-- ==== Proof.KernelIdeal.Ranged.lean ====
/- Owners that are segment numbers make every block of owners a block of segment numbers. -/
module

public import proofs.«01_k».proof.Proof.KernelIdeal.Blocks

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ)

/-- The owner of the `n`-th point of block `t`, as the body reads it. -/
theorem owner_at (c : Dev nD) (t : Fin cfg0.N) (n : Fin 6400) :
    k0_pay21 (F := F) (iblk m c 1 t) (ix2 0 n) = m ((c : Thread nD τ).loc main_arg1) (ix1 (atom t n)) := by
  rw [← owners_at m c t n]
  simp only [k0_pay21, pointwise]

theorem inRange_of (h : ∀ (c : Dev nD) (n : Fin 320000), ((m ((c : Thread nD τ).loc main_arg1) : IVec S320000 32) (ix1 n)).toNat < 1000) : InRange m := by
  intro c t j
  obtain ⟨n, rfl⟩ : ∃ n : Fin 6400, j = ix2 0 n := ⟨j 1, by
    funext a
    match a with
    | ⟨0, _⟩ => exact Subsingleton.elim (α := Fin 1) _ _
    | ⟨1, _⟩ => rfl⟩
  rw [owner_at]
  exact h c _

end Cert.KernelIdeal.Hand
-- ==== Proof.SameProgram.lean ====
/- The kernel and its idealization are one program: no operation was rewritten, so the run of the one, which is proved
   at any floats, is the run of the other. -/
module

public import proofs.«01_k».proof.Proof.KernelIdeal.Ranged
public import proofs.«01_k».proof.Proof.Gen.Kernel
public import proofs.«01_k».proof.Kernel

@[expose] public section

set_option maxRecDepth 16384

noncomputable section

namespace Cert.SameProgram

open Idealize.ShloMosaic Idealize.SL.Sem
open Cert.Kernel

variable {F : FTy → Type} [FloatOps F]

set_option maxHeartbeats 2000000

/-- The two bodies are one function, -/
theorem bodies_same : Cert.KernelIdeal.defs₀ (F := F) = Cert.Kernel.defs₀ (F := F) := by
  unfold Cert.KernelIdeal.defs₀ Cert.Kernel.defs₀
  refine congrArg Defs.onTc ?_
  funext p a
  match p, a with
  | ⟨0, _⟩, (t, s) => rfl

/-- so the two body tables are one table. -/
theorem tables_same : Cert.KernelIdeal.defs (F := F) = Cert.Kernel.defs (F := F) :=
  congrArg (fun d => Pipeline.defs Cert.Kernel.pcfgs d) bodies_same

/-- The kernel ends with its arguments unchanged and every semaphore at zero. -/
theorem kernel_frame (m : (ℓ : Loc nD τ sig) → Buf (Elt F) ℓ) (ρ : Dev nD → PrngReg) (hg : Cert.KernelIdeal.Hand.InRange (F := F) m) :
    θ_run (Cert.Kernel.defs (F := F)) (onTc (τ := τ) (Cert.Kernel.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  rw [← tables_same]
  exact Cert.KernelIdeal.Hand.frame_in_range m ρ hg

end Cert.SameProgram
-- ==== Proof.Inputs.lean ====
/- What the precondition on the owners says of each of them: it is a segment number. -/
module

public import proofs.«01_k».proof.Pre_owners_in_range
public import Idealize.ShloMosaic.PureOps.Ideal
public import Idealize.ShloMosaic.Lib.Pointwise
public import Idealize.ShloMosaic.Lib.WordCmp

@[expose] public section

noncomputable section

namespace Cert.Inputs

open Idealize.ShloMosaic

/-- A word at least zero and below 1000, both signed, is below 1000. -/
theorem word_in_range {x : BitVec 32} (h : IntOp.andi (IntOp.cmpi .sge x 0#32) (IntOp.cmpi .slt x 1000#32) = 1#1) : x.toNat < 1000 := by
  have hx := x.isLt
  have ht := BitVec.toInt_eq_toNat_cond x
  simp only [IntOp.andi, IntOp.cmpi] at h
  by_cases h0 : (0#32).sle x <;> by_cases h1 : x.slt 1000#32 <;> simp_all
  rw [BitVec.sle_iff_toInt_le] at h0
  rw [BitVec.slt_iff_toInt_lt] at h1
  simp at h0 h1
  split at ht <;> omega

theorem owners {F : FTy → Type} [FloatOps F] [Cert.Pre_owners_in_range.Facts]
    (a0 : FVec F ⟨2, ![320000, 128]⟩ .f32) (a1 : IVec ⟨1, ![320000]⟩ 32) (a2 : FVec F ⟨2, ![128, 32]⟩ .f32) (a3 : FVec F ⟨1, ![32]⟩ .f32)
    (a4 : FVec F ⟨2, ![32, 3]⟩ .f32) (a5 : FVec F ⟨1, ![3]⟩ .f32)
    (h : Cert.Pre_owners_in_range.fn (F := F) a0 a1 a2 a3 a4 a5 = fun _ => 1#1) (n : Fin 320000) : (a1 (ix1 n)).toNat < 1000 :=
  word_in_range (congrFun h (ix1 n))

end Cert.Inputs
-- ==== Proof.Reals.lean ====
/- What the precondition of the value claim says of the arguments, element by element: the owners are segment numbers,
   the floats are real numbers. -/
module

public import proofs.«01_k».proof.Proof.Inputs
public import proofs.«01_k».proof.Pre_finite_and_in_range
public import Idealize.ShloMosaic.PureOps.Ideal
public import Idealize.ShloMosaic.Lib.Pointwise
public import Idealize.ShloMosaic.Lib.WordCmp

@[expose] public section

noncomputable section

namespace Cert.Inputs

open Idealize.ShloMosaic

/-- An extended real above the word of minus infinity and below that of infinity is a real number. -/
theorem real_of {x : Ideal .f32} (h : IntOp.andi (Scalar.cmpf .ogt x (Scalar.ofBits .f32 0xFF800000#32)) (Scalar.cmpf .olt x (Scalar.ofBits .f32 0x7F800000#32)) = 1#1) :
    ∃ r : ℝ, x = (r : EReal) := by
  have hb : (Scalar.ofBits .f32 0xFF800000#32 : Ideal .f32) = (⊥ : EReal) := by
    show Ideal.ofBits .f32 0xFF800000#32 = ⊥
    simp [Ideal.ofBits, Ideal.ieee]
  have ht : (Scalar.ofBits .f32 0x7F800000#32 : Ideal .f32) = (⊤ : EReal) := by
    show Ideal.ofBits .f32 0x7F800000#32 = ⊤
    simp [Ideal.ofBits, Ideal.ieee]
  rw [hb, ht] at h
  induction x using EReal.rec with
  | bot => exact absurd h (by simp [IntOp.andi, Ideal.cmp])
  | coe r => exact ⟨r, rfl⟩
  | top => exact absurd h (by simp [IntOp.andi, Ideal.cmp])

theorem finite [Cert.Pre_finite_and_in_range.Facts]
    (a0 : FVec Ideal ⟨2, ![320000, 128]⟩ .f32) (a1 : IVec ⟨1, ![320000]⟩ 32) (a2 : FVec Ideal ⟨2, ![128, 32]⟩ .f32) (a3 : FVec Ideal ⟨1, ![32]⟩ .f32)
    (a4 : FVec Ideal ⟨2, ![32, 3]⟩ .f32) (a5 : FVec Ideal ⟨1, ![3]⟩ .f32)
    (h1 : (Cert.Pre_finite_and_in_range.fn (F := Ideal) a0 a1 a2 a3 a4 a5).1 = fun _ => 1#1)
    (h0 : (Cert.Pre_finite_and_in_range.fn (F := Ideal) a0 a1 a2 a3 a4 a5).2.1 = fun _ => 1#1)
    (h2 : (Cert.Pre_finite_and_in_range.fn (F := Ideal) a0 a1 a2 a3 a4 a5).2.2.1 = fun _ => 1#1)
    (h3 : (Cert.Pre_finite_and_in_range.fn (F := Ideal) a0 a1 a2 a3 a4 a5).2.2.2.1 = fun _ => 1#1)
    (h4 : (Cert.Pre_finite_and_in_range.fn (F := Ideal) a0 a1 a2 a3 a4 a5).2.2.2.2.1 = fun _ => 1#1)
    (h5 : (Cert.Pre_finite_and_in_range.fn (F := Ideal) a0 a1 a2 a3 a4 a5).2.2.2.2.2 = fun _ => 1#1) :
    (∀ n : Fin 320000, (a1 (ix1 n)).toNat < 1000) ∧ (∀ i, ∃ r : ℝ, a0 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) :=
  ⟨fun n => word_in_range (congrFun h1 (ix1 n)), fun i => real_of (congrFun h0 i), fun i => real_of (congrFun h2 i),
    fun i => real_of (congrFun h3 i), fun i => real_of (congrFun h4 i), fun i => real_of (congrFun h5 i)⟩

end Cert.Inputs
-- ==== Proof.KernelIdeal.Window.lean ====
/- Over the reals, what one window step adds: to each of the sixteen rows it reaches, the sum over the block's points
   that this row owns. -/
module

public import proofs.«01_k».proof.Proof.KernelIdeal.Step
public import proofs.«01_k».proof.Proof.KernelIdeal.Words
public import Idealize.ShloMosaic.PureOps.Ideal
public import Idealize.ShloMosaic.Lib.Pointwise
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe

variable (ow : IVec S1x6400 32) (et : FVec Ideal S8x6400 .f32) (a b : BitVec 32)

/-- A comparison for equality, widened and read as a float. -/
theorem float_of_eq (x y : BitVec 32) : (FloatOps.sitofp .f32 (BitVec.setWidth 32 (IntOp.cmpi .eq x y)) : Ideal .f32) = if x = y then 1 else 0 := by
  by_cases h : x = y
  · subst h
    rw [if_pos rfl]
    show (((BitVec.setWidth 32 (IntOp.cmpi .eq x x)).toInt : ℝ) : EReal) = 1
    simp [IntOp.cmpi]
  · rw [if_neg h]
    show (((BitVec.setWidth 32 (IntOp.cmpi .eq x y)).toInt : ℝ) : EReal) = 0
    simp [IntOp.cmpi, beq_eq_false_iff_ne.2 h]

/-- The one-hot matrix of a window: 1 where the point's owner is the row. -/
theorem onehot (w : BitVec 32) (k : Fin (k0_t1_loop a b).trips) (r : Fin 16) (n : Fin 6400) :
    k0_pay5 (F := Ideal) ow a b w 0#32 1#32 k (ix2 r n)
      = if ow (ix2 0 n) = w + Scf.iv 0#32 1#32 k.val * 16#32 + BitVec.ofNat 32 r.val then 1 else 0 := by
  refine Eq.trans ?_ (float_of_eq _ _)
  simp only [k0_pay5, pointwise]
  simp [IntOp.addi, Scalar.addi, Scalar.muli, IntOp.muli]

theorem den_step (w : BitVec 32) (k : Fin (k0_t1_loop a b).trips) (d : Vec Ideal S16x8 .f32) (r : Fin 16) (h : Fin 8) :
    k0_pay6 ow et a b w 0#32 1#32 k d (ix2 r h) = d (ix2 r h) + ∑ n : Fin 6400, k0_pay5 (F := Ideal) ow a b w 0#32 1#32 k (ix2 r n) * et (ix2 h n) := by
  simp only [k0_pay6, pointwise, zero_add]

theorem heads_step (x : Vec Ideal S6400x128 .f32) (w : BitVec 32) (k : Fin (k0_t1_loop a b).trips) (h : Fin 3) (r : Fin 16) (e : Fin 128) :
    k0_pay7 x ow et a b w 0#32 1#32 k (ix2 ⟨16 * h.val + r.val, by omega⟩ e)
      = ∑ n : Fin 6400, k0_pay5 (F := Ideal) ow a b w 0#32 1#32 k (ix2 r n) * et (ix2 ⟨h.val, by omega⟩ n) * x (ix2 n e) := by
  simp only [k0_pay7, pointwise, zero_add]
  refine Finset.sum_congr rfl fun n _ => congrArg (· * x (ix2 n e)) ?_
  have hr := r.isLt
  have h0 : ![16, 6400] (0 : Fin 2) = 16 := rfl
  match h with
  | ⟨0, _⟩ =>
    rw [dif_pos (show 16 * 0 + r.val < ![16, 6400] (0 : Fin 2) by omega)]
    simp
  | ⟨1, _⟩ =>
    rw [dif_neg (show ¬ 16 * 1 + r.val < ![16, 6400] (0 : Fin 2) by omega), dif_pos (show 16 * 1 + r.val - ![16, 6400] (0 : Fin 2) < ![16, 6400] (0 : Fin 2) by omega)]
    simp
  | ⟨2, _⟩ =>
    rw [dif_neg (show ¬ 16 * 2 + r.val < ![16, 6400] (0 : Fin 2) by omega), dif_neg (show ¬ 16 * 2 + r.val - ![16, 6400] (0 : Fin 2) < ![16, 6400] (0 : Fin 2) by omega)]
    simp
    rw [show (⟨32 + r.val - 16 - 16, by omega⟩ : Fin 16) = r from Fin.ext (by show 32 + r.val - 16 - 16 = r.val; omega)]

theorem out_step0 (x : Vec Ideal S6400x128 .f32) (w : BitVec 32) (k : Fin (k0_t1_loop a b).trips) (o : Vec Ideal S1x16x128 .f32) (r : Fin 16) (e : Fin 128) :
    k0_pay8 x ow et a b w 0#32 1#32 k o (ix3 0 r e) = o (ix3 0 r e) + k0_pay7 x ow et a b w 0#32 1#32 k (ix2 ⟨16 * 0 + r.val, by omega⟩ e) := by
  simp only [k0_pay8, pointwise]
  exact congrArg (o (ix3 0 r e) + ·) (congrArg _ (congrArg₂ ix2 (Fin.ext (by simp)) (Fin.ext (by simp))))
theorem out_step1 (x : Vec Ideal S6400x128 .f32) (w : BitVec 32) (k : Fin (k0_t1_loop a b).trips) (o : Vec Ideal S1x16x128 .f32) (r : Fin 16) (e : Fin 128) :
    k0_pay1 (k0_pay9 x ow et a b w 0#32 1#32 k o) (ix3 0 r e) = o (ix3 0 r e) + k0_pay7 x ow et a b w 0#32 1#32 k (ix2 ⟨16 * 1 + r.val, by omega⟩ e) := by
  simp only [k0_pay1, k0_pay9, pointwise]
  exact congrArg (o (ix3 0 r e) + ·) (congrArg _ (congrArg₂ ix2 (Fin.ext (by simp)) (Fin.ext (by simp))))
theorem out_step2 (v : FVec Ideal S48x128 .f32) (o : Vec Ideal S1x16x128 .f32) (r : Fin 16) (e : Fin 128) :
    k0_pay2 v o (ix3 0 r e) = o (ix3 0 r e) + v (ix2 ⟨16 * 2 + r.val, by omega⟩ e) := by
  simp only [k0_pay2, pointwise]
  exact congrArg (o (ix3 0 r e) + ·) (congrArg _ (congrArg₂ ix2 (Fin.ext (by simp)) (Fin.ext (by simp))))

/-! ## The windows at an index -/

/-- A window of sixteen rows put over a matrix, at an index. -/
theorem put_rows {α : Type} (d : S1008x8.Idx → α) {off : Fin 2 → ℕ} {p : ℕ} (e : off = ![p, 0]) (v : S16x8.Idx → α) (s : Fin 1008) (h : Fin 8) :
    VecWindow.put (s := S1008x8) d off S16x8.size v (ix2 s h) = if hs : p ≤ s.val ∧ s.val < p + 16 then v (ix2 ⟨s.val - p, by omega⟩ h) else d (ix2 s h) := by
  subst e
  unfold VecWindow.put
  have hh := h.isLt
  by_cases hs : p ≤ s.val ∧ s.val < p + 16
  · rw [dif_pos hs, dif_pos (fun a => by
      match a with
      | ⟨0, _⟩ => exact hs
      | ⟨1, _⟩ => exact ⟨Nat.zero_le _, by show h.val < 0 + 8; omega⟩)]
    refine congrArg v (funext fun a => ?_)
    match a with
    | ⟨0, _⟩ => exact Fin.ext rfl
    | ⟨1, _⟩ => exact Fin.ext rfl
  · rw [dif_neg hs, dif_neg (fun h' => hs (h' 0))]

theorem window_rows {α : Type} (d : S1008x8.Idx → α) {off : Fin 2 → ℕ} {p : ℕ} (e : off = ![p, 0]) (inb : ∀ a, off a + S16x8.size a ≤ S1008x8.size a)
    (r : Fin 16) (h : Fin 8) (s : Fin 1008) (hs : s.val = p + r.val) : VecWindow.window (s := S1008x8) d off S16x8.size inb (ix2 r h) = d (ix2 s h) := by
  subst e
  refine congrArg d (funext fun a => ?_)
  match a with
  | ⟨0, _⟩ => exact Fin.ext (by show p + 1 * r.val = s.val; omega)
  | ⟨1, _⟩ => exact Fin.ext (by show 0 + 1 * h.val = h.val; omega)

/-- The same in the three heads' array, the window lying in the head `q`. -/
theorem put_head {α : Type} (o : S3x1008x128.Idx → α) {off : Fin 3 → ℕ} {q p : ℕ} (e : off = ![q, p, 0]) (v : S1x16x128.Idx → α) (h : Fin 3) (s : Fin 1008) (c : Fin 128) :
    VecWindow.put (s := S3x1008x128) o off S1x16x128.size v (ix3 h s c)
      = if hs : h.val = q ∧ p ≤ s.val ∧ s.val < p + 16 then v (ix3 0 ⟨s.val - p, by omega⟩ c) else o (ix3 h s c) := by
  subst e
  unfold VecWindow.put
  have hc := c.isLt
  by_cases hs : h.val = q ∧ p ≤ s.val ∧ s.val < p + 16
  · rw [dif_pos hs, dif_pos (fun a => by
      match a with
      | ⟨0, _⟩ => exact ⟨by show q ≤ h.val; omega, by show h.val < q + 1; omega⟩
      | ⟨1, _⟩ => exact hs.2
      | ⟨2, _⟩ => exact ⟨Nat.zero_le _, by show c.val < 0 + 128; omega⟩)]
    refine congrArg v (funext fun a => ?_)
    match a with
    | ⟨0, _⟩ => exact Subsingleton.elim (α := Fin 1) _ _
    | ⟨1, _⟩ => exact Fin.ext rfl
    | ⟨2, _⟩ => exact Fin.ext rfl
  · rw [dif_neg hs, dif_neg (fun h' => hs ⟨by
      have h0 : q ≤ h.val ∧ h.val < q + 1 := h' 0
      omega, h' 1⟩)]

theorem window_head {α : Type} (o : S3x1008x128.Idx → α) {off : Fin 3 → ℕ} {q p : ℕ} (e : off = ![q, p, 0]) (inb : ∀ a, off a + S1x16x128.size a ≤ S3x1008x128.size a)
    (r : Fin 16) (c : Fin 128) (h : Fin 3) (hq : h.val = q) (s : Fin 1008) (hs : s.val = p + r.val) :
    VecWindow.window (s := S3x1008x128) o off S1x16x128.size inb (ix3 0 r c) = o (ix3 h s c) := by
  subst e
  refine congrArg o (funext fun a => ?_)
  match a with
  | ⟨0, _⟩ => exact Fin.ext (by show q + 1 * 0 = h.val; omega)
  | ⟨1, _⟩ => exact Fin.ext (by show p + 1 * r.val = s.val; omega)
  | ⟨2, _⟩ => exact Fin.ext (by show 0 + 1 * c.val = c.val; omega)

/-! ## One step -/

/-- A head's weights of one row, over a block. -/
def rowDen (s : ℕ) (h : Fin 8) : EReal := ∑ n : Fin 6400, if (ow (ix2 0 n)).toNat = s then (et (ix2 h n) : EReal) else 0

/-- A head's weighted points of one row, over a block. -/
def rowSum (x : Vec Ideal S6400x128 .f32) (h : Fin 3) (s : ℕ) (c : Fin 128) : EReal :=
  ∑ n : Fin 6400, if (ow (ix2 0 n)).toNat = s then (et (ix2 ⟨h.val, by omega⟩ n) : EReal) * x (ix2 n c) else 0

variable {a b} (hab : a.toNat ≤ b.toNat) (hb : b.toNat < 1000)

include hab hb in
theorem onehot_row (k : Fin (k0_t1_loop a b).trips) (r : Fin 16) (n : Fin 6400) :
    k0_pay5 (F := Ideal) ow a b (baseW a) 0#32 1#32 k (ix2 r n) = if (ow (ix2 0 n)).toNat = base a + 16 * k.val + r.val then 1 else 0 := by
  have hw : baseW a + Scf.iv 0#32 1#32 k.val * 16#32 + BitVec.ofNat 32 r.val = BitVec.ofNat 32 (base a + 16 * k.val + r.val) := by
    rw [BitVec.ofNat_add (base a + 16 * k.val), ← row_word hab hb]; rfl
  have hlt := row_lt hab hb k.val (lt_of_lt_of_eq k.isLt (trips1 hab hb))
  have hr := r.isLt
  rw [onehot, hw]
  refine if_congr ⟨fun h => ?_, fun h => ?_⟩ rfl rfl
  · rw [h, BitVec.toNat_ofNat]; omega
  · rw [← h]; simp

include hab hb in
theorem winDen_at (hw : k0_chk1 a b) (k : Fin (k0_t1_loop a b).trips) (d : Vec Ideal S1008x8 .f32) (s : Fin 1008) (h : Fin 8) :
    winDen ow et a b hw (baseW a) k d (ix2 s h)
      = if base a + 16 * k.val ≤ s.val ∧ s.val < base a + 16 * k.val + 16 then d (ix2 s h) + rowDen ow et s.val h else d (ix2 s h) := by
  unfold winDen
  rw [put_rows d (off1_eq hab hb k)]
  by_cases hs : base a + 16 * k.val ≤ s.val ∧ s.val < base a + 16 * k.val + 16
  · rw [dif_pos hs, if_pos hs, den_step, window_rows d (off1_eq hab hb k) _ _ h s (by show s.val = _ + (s.val - _); omega)]
    refine congrArg (d (ix2 s h) + ·) (Finset.sum_congr rfl fun n _ => ?_)
    rw [onehot_row ow hab hb, show base a + 16 * k.val + (s.val - (base a + 16 * k.val)) = s.val by omega]
    split_ifs
    · exact one_mul _
    · exact zero_mul _
  · rw [dif_neg hs, if_neg hs]

include hab hb in
theorem heads_row (x : Vec Ideal S6400x128 .f32) (k : Fin (k0_t1_loop a b).trips) (h : Fin 3) (s : Fin 1008)
    (hs : base a + 16 * k.val ≤ s.val ∧ s.val < base a + 16 * k.val + 16) (c : Fin 128) :
    k0_pay7 x ow et a b (baseW a) 0#32 1#32 k (ix2 ⟨16 * h.val + (s.val - (base a + 16 * k.val)), by omega⟩ c) = rowSum ow et x h s.val c := by
  refine (heads_step ow et a b x (baseW a) k h ⟨s.val - (base a + 16 * k.val), by omega⟩ c).trans (Finset.sum_congr rfl fun n _ => ?_)
  rw [onehot_row ow hab hb, show base a + 16 * k.val + (s.val - (base a + 16 * k.val)) = s.val by omega]
  split_ifs
  · exact congrArg (· * (x (ix2 n c) : EReal)) (one_mul _)
  · exact (congrArg (· * (x (ix2 n c) : EReal)) (zero_mul _)).trans (zero_mul _)

include hab hb in
theorem winOut_at (x : Vec Ideal S6400x128 .f32) (hw : k0_chk1 a b) (k : Fin (k0_t1_loop a b).trips) (o : Vec Ideal S3x1008x128 .f32) (h : Fin 3) (s : Fin 1008) (c : Fin 128) :
    winOut x ow et a b hw (baseW a) k o (ix3 h s c)
      = if base a + 16 * k.val ≤ s.val ∧ s.val < base a + 16 * k.val + 16 then o (ix3 h s c) + rowSum ow et x h s.val c else o (ix3 h s c) := by
  unfold winOut
  dsimp only
  by_cases hs : base a + 16 * k.val ≤ s.val ∧ s.val < base a + 16 * k.val + 16
  · rw [if_pos hs]
    have hq : s.val = base a + 16 * k.val + (s.val - (base a + 16 * k.val)) := by omega
    match h with
    | ⟨0, _⟩ =>
      rw [put_head _ (off4_eq hab hb k), dif_neg (fun h' => absurd h'.1 (by simp)), put_head _ (off3_eq hab hb k), dif_neg (fun h' => absurd h'.1 (by simp)),
        put_head _ (off2_eq hab hb k), dif_pos ⟨rfl, hs⟩, out_step0, window_head o (off2_eq hab hb k) _ _ c ⟨0, by decide⟩ rfl s hq]
      exact congrArg _ (heads_row ow et hab hb x k ⟨0, by decide⟩ s hs c)
    | ⟨1, _⟩ =>
      rw [put_head _ (off4_eq hab hb k), dif_neg (fun h' => absurd h'.1 (by simp)), put_head _ (off3_eq hab hb k), dif_pos ⟨rfl, hs⟩, out_step1,
        window_head _ (off3_eq hab hb k) _ _ c ⟨1, by decide⟩ rfl s hq, put_head _ (off2_eq hab hb k), dif_neg (fun h' => absurd h'.1 (by simp))]
      exact congrArg _ (heads_row ow et hab hb x k ⟨1, by decide⟩ s hs c)
    | ⟨2, _⟩ =>
      rw [put_head _ (off4_eq hab hb k), dif_pos ⟨rfl, hs⟩, out_step2,
        window_head _ (off4_eq hab hb k) _ _ c ⟨2, by decide⟩ rfl s hq, put_head _ (off3_eq hab hb k), dif_neg (fun h' => absurd h'.1 (by simp)),
        put_head _ (off2_eq hab hb k), dif_neg (fun h' => absurd h'.1 (by simp))]
      exact congrArg _ (heads_row ow et hab hb x k ⟨2, by decide⟩ s hs c)
  · rw [if_neg hs, put_head _ (off4_eq hab hb k), dif_neg (fun h' => hs h'.2), put_head _ (off3_eq hab hb k), dif_neg (fun h' => hs h'.2),
      put_head _ (off2_eq hab hb k), dif_neg (fun h' => hs h'.2)]

/-! ## All the windows of a block -/

include hab hb in
theorem foldDen_at (hw : k0_chk1 a b) (d : Vec Ideal S1008x8 .f32) (s : Fin 1008) (h : Fin 8) : ∀ n, n ≤ (k0_t1_loop a b).trips →
    foldDen ow et a b hw (baseW a) n d (ix2 s h) = if base a ≤ s.val ∧ s.val < base a + 16 * n then d (ix2 s h) + rowDen ow et s.val h else d (ix2 s h)
  | 0, _ => by rw [if_neg (by omega)]; rfl
  | n + 1, hn => by
    rw [foldDen_succ ow et a b hw _ n (by omega) d, winDen_at ow et hab hb hw ⟨n, by omega⟩, foldDen_at hw d s h n (by omega)]
    show (if base a + 16 * n ≤ s.val ∧ s.val < base a + 16 * n + 16 then _ else _) = _
    split_ifs <;> first | rfl | omega

include hab hb in
theorem foldOut_at (x : Vec Ideal S6400x128 .f32) (hw : k0_chk1 a b) (o : Vec Ideal S3x1008x128 .f32) (h : Fin 3) (s : Fin 1008) (c : Fin 128) : ∀ n, n ≤ (k0_t1_loop a b).trips →
    foldOut x ow et a b hw (baseW a) n o (ix3 h s c)
      = if base a ≤ s.val ∧ s.val < base a + 16 * n then o (ix3 h s c) + rowSum ow et x h s.val c else o (ix3 h s c)
  | 0, _ => by rw [if_neg (by omega)]; rfl
  | n + 1, hn => by
    rw [foldOut_succ x ow et a b hw _ n (by omega) o, winOut_at ow et hab hb x hw ⟨n, by omega⟩, foldOut_at x hw o h s c n (by omega)]
    show (if base a + 16 * n ≤ s.val ∧ s.val < base a + 16 * n + 16 then _ else _) = _
    split_ifs <;> first | rfl | omega

end Cert.KernelIdeal.Hand
-- ==== Proof.KernelIdeal.Sums.lean ====
/- Over the reals, what the accumulators hold after every grid point: at each row, the sum over the points seen so far
   that the row owns. -/
module

public import proofs.«01_k».proof.Proof.KernelIdeal.Window
public import proofs.«01_k».proof.Proof.KernelIdeal.Ranged

@[expose] public section

set_option maxRecDepth 16384

noncomputable section

namespace Cert.KernelIdeal.Hand

open Cert.KernelIdeal Cert.KernelIdeal.Gen
open Idealize.ShloMosaic Idealize.ShloMosaic.TcCoe

/-! ## One block -/

section Block

variable (ow : IVec S1x6400 32) (h : Good ow)

include h in
/-- A row outside the block's windows owns no point of the block. -/
theorem owned_in_windows (s : ℕ) (hs : ¬ (base (firstW ow) ≤ s ∧ s < base (firstW ow) + 16 * nwin (firstW ow) (lastW ow))) (n : Fin 6400) :
    (ow (ix2 0 n)).toNat ≠ s := by
  obtain ⟨h1, h2, h3⟩ := between h n
  have h16 : base (firstW ow) ≤ (firstW ow).toNat := Nat.div_mul_le_self _ _
  intro e
  refine hs ⟨by omega, ?_⟩
  unfold nwin
  omega

variable (x0 : Vec Ideal S6400x128 .f32) (x1 : Vec Ideal S1x1x6400 .i32) (x2 : Vec Ideal S128x32 .f32) (x3 : Vec Ideal S32x1 .f32) (x4 : Vec Ideal S32x8 .f32) (x5 : Vec Ideal S8x1 .f32)
    (hg : Good (k0_pay21 (F := Ideal) x1)) (hw : Chk (F := Ideal) x1)

include hg in
theorem blkDen_at (d : Vec Ideal S1008x8 .f32) (s : Fin 1008) (h : Fin 8) :
    blkDen x0 x1 x2 x3 x4 x5 hw d (ix2 s h) = d (ix2 s h) + rowDen (k0_pay21 (F := Ideal) x1) (etOf x0 x2 x3 x4 x5) s.val h := by
  have hab := first_le_last hg
  have hb := last_lt hg
  unfold blkDen
  rw [foldDen_at _ _ hab hb hw d s h _ le_rfl, trips1 hab hb]
  split_ifs with hs
  · rfl
  · rw [rowDen, Finset.sum_eq_zero fun n _ => if_neg (owned_in_windows _ hg s.val hs n)]
    exact (add_zero _).symm

include hg in
theorem blkOut_at (o : Vec Ideal S3x1008x128 .f32) (h : Fin 3) (s : Fin 1008) (c : Fin 128) :
    blkOut x0 x1 x2 x3 x4 x5 hw o (ix3 h s c) = o (ix3 h s c) + rowSum (k0_pay21 (F := Ideal) x1) (etOf x0 x2 x3 x4 x5) x0 h s.val c := by
  have hab := first_le_last hg
  have hb := last_lt hg
  unfold blkOut
  rw [foldOut_at _ _ hab hb x0 hw o h s c _ le_rfl, trips1 hab hb]
  split_ifs with hs
  · rfl
  · rw [rowSum, Finset.sum_eq_zero fun n _ => if_neg (owned_in_windows _ hg s.val hs n)]
    exact (add_zero _).symm

end Block

end Cert.KernelIdeal.Hand
-- ==== Proof.Model.lean ====
/- The pooling over the real numbers: each head's weight of a point, the totals of a segment, the pooled value; and how
   these arise from extended reals that are real. -/
module

public import Idealize.ShloMosaic.PureOps.Ideal

@[expose] public section

noncomputable section

namespace Cert.Model

open Idealize.ShloMosaic

/-- The extended real of a finite sum of reals is the sum of the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A product of two reals each cut in a high and a low part, the low part being zero. -/
theorem split_product {K : ℕ} (p q : Fin K → ℝ) :
    (0 + ∑ k, (p k : EReal) * (q k : EReal) + (0 + ∑ k, (p k : EReal) * ((q k : EReal) - (q k : EReal))) + (0 + ∑ k, ((p k : EReal) - (p k : EReal)) * (q k : EReal)) : EReal)
      = ((∑ k, p k * q k : ℝ) : EReal) := by
  have h0 : ∀ r : ℝ, (r : EReal) - (r : EReal) = 0 := fun r => by rw [← EReal.coe_sub, sub_self, EReal.coe_zero]
  simp only [h0, mul_zero, zero_mul, Finset.sum_const_zero, add_zero, zero_add, coe_sum, EReal.coe_mul]

/-- A number times its logistic value. -/
def silu (r : ℝ) : ℝ := r * (1 / (1 + Real.exp (-r)))

theorem silu_coe (r : ℝ) : (r : EReal) * Ideal.div 1 (1 + Ideal.exp (0 - (r : EReal))) = (silu r : EReal) := by
  show (r : EReal) * Ideal.div ((1 : ℝ) : EReal) (((1 : ℝ) : EReal) + Ideal.exp (((0 : ℝ) : EReal) - (r : EReal))) = _
  have hp : (1 + Real.exp (-r) : ℝ) ≠ 0 := (add_pos one_pos (Real.exp_pos _)).ne'
  rw [← EReal.coe_sub, zero_sub, Ideal.exp_coe, ← EReal.coe_add, Ideal.div_coe hp, ← EReal.coe_mul, ← EReal.coe_mul, one_mul]
  rfl

/-! ## A sum over the points, block by block -/

/-- The points of block `t`. -/
def block (g : Fin 320000 → ℝ) (t : ℕ) : ℝ := if h : t < 50 then ∑ n : Fin 6400, g ⟨t * 6400 + n.val, by omega⟩ else 0

/-- The points of the blocks up to `n`. -/
def upto (g : Fin 320000 → ℝ) : ℕ → ℝ
  | 0 => block g 0
  | n + 1 => upto g n + block g (n + 1)

theorem upto_eq (g : Fin 320000 → ℝ) : ∀ n, upto g n = ∑ t ∈ Finset.range (n + 1), block g t
  | 0 => by simp [upto]
  | n + 1 => by rw [Finset.sum_range_succ, ← upto_eq g n]; rfl

/-- The fifty blocks are all the points. -/
theorem upto_all (g : Fin 320000 → ℝ) : upto g 49 = ∑ i, g i := by
  rw [upto_eq, Finset.sum_range]
  have hb : ∀ t : Fin 50, block g t.val = ∑ n : Fin 6400, g (finProdFinEquiv (t, n)) := fun t => by
    rw [block, dif_pos t.isLt]
    refine Finset.sum_congr rfl fun n _ => congrArg g (Fin.ext ?_)
    show t.val * 6400 + n.val = n.val + 6400 * t.val
    omega
  simp only [show 49 + 1 = 50 from rfl, hb]
  rw [← Fintype.sum_prod_type', ← Equiv.sum_comp (finProdFinEquiv : Fin 50 × Fin 6400 ≃ Fin 320000) g]

variable (x : Fin 320000 → Fin 128 → ℝ) (w1 : Fin 128 → Fin 32 → ℝ) (b1 : Fin 32 → ℝ) (w2 : Fin 32 → Fin 3 → ℝ) (b2 : Fin 3 → ℝ) (own : Fin 320000 → ℕ)

/-- The hidden layer before its activation, -/
def hidden (i : Fin 320000) (j : Fin 32) : ℝ := ∑ k, w1 k j * x i k + b1 j

/-- and a point's score in each head. -/
def score (i : Fin 320000) (h : Fin 3) : ℝ := ∑ j, w2 j h * silu (hidden x w1 b1 i j) + b2 h

/-- The weights of a segment, -/
def den (s : ℕ) (h : Fin 3) : ℝ := ∑ i, if own i = s then Real.exp (score x w1 b1 w2 b2 i h) else 0

/-- its weighted points, -/
def num (s : ℕ) (h : Fin 3) (c : Fin 128) : ℝ := ∑ i, if own i = s then Real.exp (score x w1 b1 w2 b2 i h) * x i c else 0

/-- and their quotient, zero where no point is in the segment. -/
def pooled (s : ℕ) (h : Fin 3) (c : Fin 128) : ℝ := num x w1 b1 w2 b2 own s h c / den x w1 b1 w2 b2 own s h

/-- Where a segment's weights sum to zero it has no point, so its weighted points sum to zero as well. -/
theorem num_of_den_zero (s : ℕ) (h : Fin 3) (c : Fin 128) (h0 : den x w1 b1 w2 b2 own s h = 0) : num x w1 b1 w2 b2 own s h c = 0 := by
  refine Finset.sum_eq_zero fun i _ => if_neg fun hi => ?_
  have hall := (Finset.sum_eq_zero_iff_of_nonneg fun j _ => by split <;> [exact (Real.exp_pos _).le; exact le_rfl]).mp h0 i (Finset.mem_univ i)
  rw [if_pos hi] at hall
  exact (Real.exp_pos _).ne' hall

/-- The weighted points times the inverse of the weights, an empty segment's weights read as one. -/
theorem pooled_coe (s : ℕ) (h : Fin 3) (c : Fin 128) :
    ((num x w1 b1 w2 b2 own s h c : ℝ) : EReal) * Ideal.div 1 (if ((den x w1 b1 w2 b2 own s h : ℝ) : EReal) = 0 then 1 else (den x w1 b1 w2 b2 own s h : ℝ))
      = (pooled x w1 b1 w2 b2 own s h c : ℝ) := by
  by_cases h0 : den x w1 b1 w2 b2 own s h = 0
  · rw [pooled, num_of_den_zero x w1 b1 w2 b2 own s h c h0, zero_div, EReal.coe_zero, zero_mul]
  · rw [if_neg fun e => h0 (EReal.coe_eq_zero.mp e), Ideal.div_coe h0, one_mul, ← EReal.coe_mul, pooled, mul_one_div]

/-- The pooled values as an array: segment, feature, head. -/
def pooledArray : (⟨3, ![1000, 128, 3]⟩ : Shape).Idx → EReal := fun i => (pooled x w1 b1 w2 b2 own (i 0).val (i 2) (i 1) : ℝ)

/-- Lowering each point's score by its segment's own amount changes no pooled value: the weights of the segment are all
    scaled alike. -/
theorem pooled_shift (μ : Fin 320000 → ℝ) (s : ℕ) (h : Fin 3) (c : Fin 128) (hμ : ∀ i j, own i = own j → μ i = μ j) :
    (∑ i, if own i = s then x i c * (Real.exp (score x w1 b1 w2 b2 i h - μ i)
        / ∑ j, if own j = own i then Real.exp (score x w1 b1 w2 b2 j h - μ j) else 0) else 0)
      = pooled x w1 b1 w2 b2 own s h c := by
  rw [pooled, num, Finset.sum_div]
  refine Finset.sum_congr rfl fun i _ => ?_
  by_cases hi : own i = s
  · have hd : (∑ j, if own j = own i then Real.exp (score x w1 b1 w2 b2 j h - μ j) else 0)
        = den x w1 b1 w2 b2 own s h * Real.exp (-μ i) := by
      rw [den, Finset.sum_mul]
      refine Finset.sum_congr rfl fun j _ => ?_
      rw [hi]
      by_cases hj : own j = s
      · rw [if_pos hj, if_pos hj, hμ i j (hi.trans hj.symm), ← Real.exp_add, sub_eq_add_neg]
      · rw [if_neg hj, if_neg hj, zero_mul]
    rw [if_pos hi, if_pos hi, hd, sub_eq_add_neg, Real.exp_add, mul_div_mul_right _ _ (Real.exp_pos _).ne', mul_comm (Real.exp _), mul_div_assoc]
  · rw [if_neg hi, if_neg hi, zero_div]

end Cert.Model
-- ==== Proof.KernelIdeal.Weights.lean ====
/- Over the reals, the weights a block gives its points: the exponential of a small network of the point's row. -/
module

public import proofs.«01_k».proof.Proof.KernelIdeal.Body
public import proofs.«01_k».proof.Proof.Model
public import Idealize.ShloMosaic.Lib.Pointwise
public import Idealize.ShloMosaic.Lib.IdealHost

@[expose] public section

set_option maxRecDepth 16384

noncomputable section

namespace Cert.KernelIdeal.Hand

open Cert.KernelIdeal Cert.KernelIdeal.Gen
open Idealize.ShloMosaic Idealize.ShloMosaic.TcCoe

variable (x0 : Vec Ideal S6400x128 .f32) (x2 : Vec Ideal S128x32 .f32) (x3 : Vec Ideal S32x1 .f32) (x4 : Vec Ideal S32x8 .f32) (x5 : Vec Ideal S8x1 .f32)

/-- A hidden unit of a point, from a real row, real weights and a real bias. -/
theorem act_at (j : Fin 32) (n : Fin 6400) (x : Fin 128 → ℝ) (w : Fin 128 → ℝ) (b : ℝ) (hx : ∀ k, x0 (ix2 n k) = (x k : EReal)) (hw : ∀ k, x2 (ix2 k j) = (w k : EReal))
    (hb : x3 (ix2 j 0) = (b : EReal)) : k0_pay22 x0 x2 x3 (ix2 j n) = (Cert.Model.silu (∑ k, w k * x k + b) : EReal) := by
  simp only [k0_pay22, pointwise]
  show (fun H : EReal => H * Ideal.div 1 (1 + Ideal.exp (0 - H)))
    (0 + ∑ k, (x2 (ix2 k j) : EReal) * x0 (ix2 n k) + (0 + ∑ k, (x2 (ix2 k j) : EReal) * ((x0 (ix2 n k) : EReal) - x0 (ix2 n k)))
      + (0 + ∑ k, ((x2 (ix2 k j) : EReal) - x2 (ix2 k j)) * x0 (ix2 n k)) + x3 (ix2 j 0)) = _
  simp only [hx, hw, hb]
  rw [Cert.Model.split_product, ← EReal.coe_add]
  exact Cert.Model.silu_coe _

/-- A head's weight of a point, from real hidden units, real weights and a real bias. -/
theorem et_at (h : Fin 8) (n : Fin 6400) (a : Fin 32 → ℝ) (w : Fin 32 → ℝ) (b : ℝ) (ha : ∀ j, k0_pay22 x0 x2 x3 (ix2 j n) = (a j : EReal)) (hw : ∀ j, x4 (ix2 j h) = (w j : EReal))
    (hb : x5 (ix2 h 0) = (b : EReal)) : etOf x0 x2 x3 x4 x5 (ix2 h n) = (Real.exp (∑ j, w j * a j + b) : EReal) := by
  simp only [etOf, k0_pay27, k0_pay26, k0_pay25, k0_pay24, k0_pay23, pointwise]
  show Ideal.exp (0 + ∑ j, (x4 (ix2 j h) : EReal) * k0_pay22 x0 x2 x3 (ix2 j n) + (0 + ∑ j, (x4 (ix2 j h) : EReal) * ((k0_pay22 x0 x2 x3 (ix2 j n) : EReal) - k0_pay22 x0 x2 x3 (ix2 j n)))
      + (0 + ∑ j, ((x4 (ix2 j h) : EReal) - x4 (ix2 j h)) * k0_pay22 x0 x2 x3 (ix2 j n)) + x5 (ix2 h 0)) = _
  simp only [ha, hw, hb]
  rw [Cert.Model.split_product, ← EReal.coe_add]
  exact Ideal.exp_coe _

end Cert.KernelIdeal.Hand
-- ==== Proof.KernelIdeal.Totals.lean ====
/- Over the reals, what the accumulators hold after the last grid point: every segment's weights and weighted points. -/
module

public import proofs.«01_k».proof.Proof.KernelIdeal.Sums
public import proofs.«01_k».proof.Proof.KernelIdeal.Weights

@[expose] public section

set_option maxRecDepth 16384

noncomputable section

namespace Cert.KernelIdeal.Hand

open Cert.KernelIdeal Cert.KernelIdeal.Gen
open Idealize.ShloMosaic Idealize.ShloMosaic.TcCoe
open Cert.Model (score hidden silu block upto)

variable (m : (ℓ : Loc nD τ sig) → Buf (Elt Ideal) ℓ) (hg : InRange m) (c : Dev nD)
variable (x : Fin 320000 → Fin 128 → ℝ) (w1 : Fin 128 → Fin 32 → ℝ) (b1 : Fin 32 → ℝ) (w2 : Fin 32 → Fin 3 → ℝ) (b2 : Fin 3 → ℝ)

/-- The float arguments are these reals. -/
structure Holds : Prop where
  x : ∀ i k, (m ((c : Thread nD τ).loc main_arg0) : Vec Ideal S320000x128 .f32) (ix2 i k) = (x i k : EReal)
  w1 : ∀ k j, (m ((c : Thread nD τ).loc main_arg2) : Vec Ideal S128x32 .f32) (ix2 k j) = (w1 k j : EReal)
  b1 : ∀ j, (m ((c : Thread nD τ).loc main_arg3) : Vec Ideal S32 .f32) (ix1 j) = (b1 j : EReal)
  w2 : ∀ j h, (m ((c : Thread nD τ).loc main_arg4) : Vec Ideal S32x3 .f32) (ix2 j h) = (w2 j h : EReal)
  b2 : ∀ h, (m ((c : Thread nD τ).loc main_arg5) : Vec Ideal S3 .f32) (ix1 h) = (b2 h : EReal)

/-- The segment that owns a point. -/
abbrev ownAt (i : Fin 320000) : ℕ := ((m ((c : Thread nD τ).loc main_arg1) : IVec S320000 32) (ix1 i)).toNat

variable (hm : Holds m c x w1 b1 w2 b2)

include hm in
theorem weight_at (t : Fin cfg0.N) (h : Fin 3) (n : Fin 6400) :
    etOf (iblk m c 0 t) (iblk m c 2 t) (iblk m c 3 t) (iblk m c 4 t) (iblk m c 5 t) (ix2 ⟨h.val, by omega⟩ n)
      = (Real.exp (score x w1 b1 w2 b2 (atom t n) h) : EReal) := by
  refine et_at _ _ _ _ _ _ n (fun j => silu (hidden x w1 b1 (atom t n) j)) (fun j => w2 j h) (b2 h) (fun j => ?_) (fun j => ?_) ?_
  · refine act_at _ _ _ j n (x (atom t n)) (fun k => w1 k j) (b1 j) (fun k => ?_) (fun k => ?_) ?_
    · exact (rows_at m c t n k).trans (hm.x _ _)
    · exact (w1_at m c t k j).trans (hm.w1 _ _)
    · exact (b1_at m c t j).trans (hm.b1 _)
  · exact (w2_at m c t j h).trans (hm.w2 _ _)
  · exact (b2_at m c t h).trans (hm.b2 _)

/-- A point's part in a segment's weights, -/
def denPart (s : ℕ) (h : Fin 3) (i : Fin 320000) : ℝ := if ownAt m c i = s then Real.exp (score x w1 b1 w2 b2 i h) else 0
/-- and in its weighted points. -/
def numPart (s : ℕ) (h : Fin 3) (e : Fin 128) (i : Fin 320000) : ℝ := if ownAt m c i = s then Real.exp (score x w1 b1 w2 b2 i h) * x i e else 0

include hm in
theorem rowDen_at (t : Fin cfg0.N) (s : ℕ) (h : Fin 3) :
    rowDen (k0_pay21 (F := Ideal) (iblk m c 1 t)) (etOf (iblk m c 0 t) (iblk m c 2 t) (iblk m c 3 t) (iblk m c 4 t) (iblk m c 5 t)) s ⟨h.val, by omega⟩
      = (block (denPart m c x w1 b1 w2 b2 s h) t.val : EReal) := by
  rw [block, dif_pos (point_lt t), Cert.Model.coe_sum]
  refine Finset.sum_congr rfl fun n _ => ?_
  rw [owner_at, weight_at m c x w1 b1 w2 b2 hm t h n]
  unfold denPart
  show (if ownAt m c (atom t n) = s then _ else _) = ((if ownAt m c (atom t n) = s then _ else _ : ℝ) : EReal)
  split_ifs <;> rfl

include hm in
theorem rowSum_at (t : Fin cfg0.N) (s : ℕ) (h : Fin 3) (e : Fin 128) :
    rowSum (k0_pay21 (F := Ideal) (iblk m c 1 t)) (etOf (iblk m c 0 t) (iblk m c 2 t) (iblk m c 3 t) (iblk m c 4 t) (iblk m c 5 t)) (iblk m c 0 t) h s e
      = (block (numPart m c x w1 b1 w2 b2 s h e) t.val : EReal) := by
  rw [block, dif_pos (point_lt t), Cert.Model.coe_sum]
  refine Finset.sum_congr rfl fun n _ => ?_
  rw [owner_at, weight_at m c x w1 b1 w2 b2 hm t h n, rows_at m c t n e, hm.x]
  unfold numPart
  show (if ownAt m c (atom t n) = s then _ else _) = ((if ownAt m c (atom t n) = s then _ else _ : ℝ) : EReal)
  split_ifs
  · exact (EReal.coe_mul _ _).symm
  · rfl

include hm in
theorem denAt_eq (s : Fin 1008) (h : Fin 3) : ∀ (n : ℕ) (hn : n < cfg0.N),
    denAt m hg c n hn (ix2 s ⟨h.val, by omega⟩) = (upto (denPart m c x w1 b1 w2 b2 s.val h) n : EReal)
  | 0, hn => by
    refine (blkDen_at _ _ _ _ _ _ (hg c ⟨0, hn⟩) _ _ _ _).trans ?_
    rw [rowDen_at m c x w1 b1 w2 b2 hm ⟨0, hn⟩ s.val h]
    have h0 : (k0_pay20 (F := Ideal)) (ix2 s ⟨h.val, by omega⟩) = 0 := by simp only [k0_pay20, pointwise]
    rw [h0]
    exact zero_add _
  | n + 1, hn => by
    refine (blkDen_at _ _ _ _ _ _ (hg c ⟨n + 1, hn⟩) _ _ _ _).trans ?_
    rw [rowDen_at m c x w1 b1 w2 b2 hm ⟨n + 1, hn⟩ s.val h, denAt_eq s h n]
    exact (EReal.coe_add _ _).symm

include hm in
theorem sumAt_eq (h : Fin 3) (s : Fin 1008) (e : Fin 128) : ∀ (n : ℕ) (hn : n < cfg0.N),
    sumAt m hg c n hn (ix3 h s e) = (upto (numPart m c x w1 b1 w2 b2 s.val h e) n : EReal)
  | 0, hn => by
    refine (blkOut_at _ _ _ _ _ _ (hg c ⟨0, hn⟩) _ _ _ _ _).trans ?_
    rw [rowSum_at m c x w1 b1 w2 b2 hm ⟨0, hn⟩ s.val h e]
    have h0 : (k0_pay19 (F := Ideal)) (ix3 h s e) = 0 := by simp only [k0_pay19, pointwise]
    rw [h0]
    exact zero_add _
  | n + 1, hn => by
    refine (blkOut_at _ _ _ _ _ _ (hg c ⟨n + 1, hn⟩) _ _ _ _ _).trans ?_
    rw [rowSum_at m c x w1 b1 w2 b2 hm ⟨n + 1, hn⟩ s.val h e, sumAt_eq h s e n]
    exact (EReal.coe_add _ _).symm

end Cert.KernelIdeal.Hand
-- ==== Proof.KernelIdeal.Final.lean ====
/- Over the reals, what the last grid point leaves in the output: every total divided by its weight. -/
module

public import proofs.«01_k».proof.Proof.KernelIdeal.Totals
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe

/-- A whole head put over the three heads' array, at an index. -/
theorem put_slab {α : Type} (o : S3x1008x128.Idx → α) (q : ℕ) (v : S1x1008x128.Idx → α) (h : Fin 3) (s : Fin 1008) (c : Fin 128) :
    VecWindow.put (s := S3x1008x128) o ![q, 0, 0] S1x1008x128.size v (ix3 h s c) = if h.val = q then v (ix3 0 s c) else o (ix3 h s c) := by
  unfold VecWindow.put
  have hc := c.isLt
  have hs := s.isLt
  by_cases hq : h.val = q
  · rw [if_pos hq, dif_pos (fun a => by
      match a with
      | ⟨0, _⟩ => exact ⟨by show q ≤ h.val; omega, by show h.val < q + 1; omega⟩
      | ⟨1, _⟩ => exact ⟨Nat.zero_le _, by show s.val < 0 + 1008; omega⟩
      | ⟨2, _⟩ => exact ⟨Nat.zero_le _, by show c.val < 0 + 128; omega⟩)]
    refine congrArg v (funext fun a => ?_)
    match a with
    | ⟨0, _⟩ => exact Subsingleton.elim (α := Fin 1) _ _
    | ⟨1, _⟩ => exact Fin.ext rfl
    | ⟨2, _⟩ => exact Fin.ext rfl
  · rw [if_neg hq, dif_neg (fun h' => hq (by
      have h0 : q ≤ h.val ∧ h.val < q + 1 := h' 0
      omega))]

theorem window_slab {α : Type} (o : S3x1008x128.Idx → α) (q : ℕ) (inb : ∀ a, (![q, 0, 0] : Fin 3 → ℕ) a + S1x1008x128.size a ≤ S3x1008x128.size a)
    (h : Fin 3) (hq : h.val = q) (s : Fin 1008) (c : Fin 128) :
    VecWindow.window (s := S3x1008x128) o ![q, 0, 0] S1x1008x128.size inb (ix3 0 s c) = o (ix3 h s c) := by
  refine congrArg o (funext fun a => ?_)
  match a with
  | ⟨0, _⟩ => exact Fin.ext (by show q + 1 * 0 = h.val; omega)
  | ⟨1, _⟩ => exact Fin.ext (by show 0 + 1 * s.val = s.val; omega)
  | ⟨2, _⟩ => exact Fin.ext (by show 0 + 1 * c.val = c.val; omega)

theorem recip_at (d : Vec Ideal S1008x8 .f32) (s : Fin 1008) (h : Fin 8) :
    k0_pay15 d (ix2 s h) = Ideal.div 1 (if (d (ix2 s h) : EReal) = 0 then 1 else d (ix2 s h)) := by
  simp only [k0_pay15, pointwise]

theorem div0_at (d : Vec Ideal S1008x8 .f32) (o : Vec Ideal S1x1008x128 .f32) (s : Fin 1008) (c : Fin 128) :
    k0_pay16 d o (ix3 0 s c) = (o (ix3 0 s c) : EReal) * k0_pay15 d (ix2 s 0) := by
  simp only [k0_pay16, pointwise]
  exact congrArg (fun r : Fin 1008 => (o (ix3 0 s c) : EReal) * k0_pay15 d (ix2 r 0)) (Fin.ext (by simp))
theorem div1_at (d : Vec Ideal S1008x8 .f32) (o : Vec Ideal S1x1008x128 .f32) (s : Fin 1008) (c : Fin 128) :
    k0_pay17 d o (ix3 0 s c) = (o (ix3 0 s c) : EReal) * k0_pay15 d (ix2 s 1) := by
  simp only [k0_pay17, pointwise]
  exact congrArg (fun r : Fin 1008 => (o (ix3 0 s c) : EReal) * k0_pay15 d (ix2 r 1)) (Fin.ext (by simp))
theorem div2_at (d : Vec Ideal S1008x8 .f32) (o : Vec Ideal S1x1008x128 .f32) (s : Fin 1008) (c : Fin 128) :
    k0_pay18 d o (ix3 0 s c) = (o (ix3 0 s c) : EReal) * k0_pay15 d (ix2 s 2) := by
  simp only [k0_pay18, pointwise]
  exact congrArg (fun r : Fin 1008 => (o (ix3 0 s c) : EReal) * k0_pay15 d (ix2 r 2)) (Fin.ext (by simp))

theorem finish_at (d : Vec Ideal S1008x8 .f32) (o : Vec Ideal S3x1008x128 .f32) (h : Fin 3) (s : Fin 1008) (c : Fin 128) :
    finish d o (ix3 h s c) = (o (ix3 h s c) : EReal) * k0_pay15 d (ix2 s ⟨h.val, by omega⟩) := by
  unfold finish
  dsimp only
  rw [put_slab]
  match h with
  | ⟨0, _⟩ =>
    rw [if_neg (by simp), put_slab, if_neg (by simp), put_slab, if_pos rfl, div0_at, window_slab o 0 _ ⟨0, by decide⟩ rfl]
    rfl
  | ⟨1, _⟩ =>
    rw [if_neg (by simp), put_slab, if_pos rfl, div1_at, window_slab _ 1 _ ⟨1, by decide⟩ rfl, put_slab, if_neg (by simp)]
    rfl
  | ⟨2, _⟩ =>
    rw [if_pos rfl, div2_at, window_slab _ 2 _ ⟨2, by decide⟩ rfl, put_slab, if_neg (by simp), put_slab, if_neg (by simp)]
    rfl

variable (m : (ℓ : Loc nD τ sig) → Buf (Elt Ideal) ℓ) (hg : InRange m) (c : Dev nD)

/-- The last point of the grid. -/
def lastPt : Fin cfg0.N := ⟨49, by rw [show cfg0.N = 50 from N_0]; decide⟩

/-- The output's buffer after the last point. -/
def resultAt : Vec Ideal S3x1008x128 .f32 := outAt m hg c 49 lastPt.isLt

/-- The one write-back, at the last point, writes it: the block is the whole array. -/
theorem flushed_last (t : Fin cfg0.N) (hf : (cfg0.win 6).flush t = true) :
    (dats m hg 0 c).flushed 6 t = ((cfg0.win 6).blk t).view.read (Elt Ideal) (resultAt m hg c) := by
  have hN : cfg0.N = 50 := N_0
  have ht : t = lastPt := Fin.ext (by
    have := (flush0_6 t).mp hf
    have := t.isLt
    show t.val = 49
    omega)
  subst ht
  show (cfg0.win 6).cut (grid0.coords lastPt) ((dats m hg 0 c).after 6 lastPt) = _
  rw [after_6]
  have hz : (fun a => win0_6.index lastPt a * main_v10.ty.shape.size a) = fun _ => 0 := by decide +kernel
  exact (Memref.read_access_unit_zero (Elt Ideal) main_v10 hz (fun a => by rw [congrFun hz a]; simp) (resultAt m hg c)).symm

theorem output_eq : (dats m hg 0 c).arrAt 6 cfg0.N = resultAt m hg c :=
  (dats m hg 0 c).arrAt_eq_of_cover 6 (resultAt m hg c) (flushed_last m hg c) fun i =>
    ⟨lastPt, (flush0_6 lastPt).mpr rfl, by
      show (i : S3x1008x128.Idx) ∈ ((View.whole main_v10).slice (win0_6.rect lastPt)).set
      rw [View.set_slice_whole, Rect.mem_set_unit]
      intro a
      have e0 : ∀ a, win0_6.index lastPt a * win0_6.size a = 0 := by decide +kernel
      have e1 : ∀ a, win0_6.xsize (grid0.coords lastPt) a = main_v10.ty.shape.size a := by decide +kernel
      have hi := (i a).isLt
      show win0_6.index lastPt a * win0_6.size a ≤ (i a).val ∧ (i a).val < win0_6.index lastPt a * win0_6.size a + win0_6.xsize _ a
      rw [e0 a, e1 a]
      exact ⟨Nat.zero_le _, by rw [Nat.zero_add]; exact hi⟩⟩

end Cert.KernelIdeal.Hand
-- ==== Proof.KernelIdeal.Result.lean ====
/- What the kernel's program returns over the reals: the pooled values, laid out as the output is. -/
module

public import proofs.«01_k».proof.Proof.KernelIdeal.Final

@[expose] public section

set_option maxRecDepth 16384

noncomputable section

namespace Cert.KernelIdeal.Hand

open Cert.KernelIdeal Cert.KernelIdeal.Gen
open Idealize.ShloMosaic Idealize.ShloMosaic.TcCoe Idealize.SL.Sem
open Cert.Model

variable (m : (ℓ : Loc nD τ sig) → Buf (Elt Ideal) ℓ) (hg : InRange m) (c : Dev nD)
variable (x : Fin 320000 → Fin 128 → ℝ) (w1 : Fin 128 → Fin 32 → ℝ) (b1 : Fin 32 → ℝ) (w2 : Fin 32 → Fin 3 → ℝ) (b2 : Fin 3 → ℝ)
variable (hm : Holds m c x w1 b1 w2 b2)

include hm in
/-- The output's buffer at the end: each total divided by its weight. -/
theorem result_at (h : Fin 3) (s : Fin 1008) (e : Fin 128) :
    resultAt m hg c (ix3 h s e) = (pooled x w1 b1 w2 b2 (ownAt m c) s.val h e : EReal) := by
  have hd : denAt m hg c 49 lastPt.isLt (ix2 s ⟨h.val, by omega⟩) = (den x w1 b1 w2 b2 (ownAt m c) s.val h : EReal) :=
    (denAt_eq m hg c x w1 b1 w2 b2 hm s h 49 lastPt.isLt).trans (congrArg _ (upto_all _))
  have ho : sumAt m hg c 49 lastPt.isLt (ix3 h s e) = (num x w1 b1 w2 b2 (ownAt m c) s.val h e : EReal) :=
    (sumAt_eq m hg c x w1 b1 w2 b2 hm h s e 49 lastPt.isLt).trans (congrArg _ (upto_all _))
  have hr : resultAt m hg c = finish (denAt m hg c 49 lastPt.isLt) (sumAt m hg c 49 lastPt.isLt) := by
    unfold resultAt outAt
    exact if_pos rfl
  rw [hr, finish_at, recip_at, hd, ho]
  exact pooled_coe x w1 b1 w2 b2 (ownAt m c) s.val h e

/-- What the operations after the launch return. -/
def returned : Vec Ideal S1000x384 .f32 := Pipeline.afterTail₀ cfgs (dats m hg) 0 (V0 m) [hostOps1] c main_v13

/-- The output's first thousand segments, its axes exchanged, its heads side by side. -/
theorem returned_as : returned m hg c
    = shapeCast S1000x384 (transpose S1000x128x3 [1, 2, 0] (extractStridedSlice S3x1000x128 ![0, 0, 0] (resultAt m hg c)
        slices_S3x1008x128_S3x1000x128_0_0_0) transposes_S3x1000x128_S1000x128x3_1_2_0) shapeCasts_S1000x128x3_S1000x384 := by
  have ha : Pipeline.withArrays spec0 c (V0 m c) (fun w => (dats m hg 0 c).arrAt w cfg0.N) (Proc.devRef .tc main_v10) = resultAt m hg c :=
    (Pipeline.withArrays_arr spec0 (by decide) c (V0 m c) (fun w => (dats m hg 0 c).arrAt w cfg0.N) 6).trans (output_eq m hg c)
  rw [← ha]
  show StableHlo.after hostOps1 _ _ = _
  after_results
  rfl

include hm in
/-- They are the pooled values. -/
theorem returned_eq : returned m hg c
    = shapeCast S1000x384 (pooledArray x w1 b1 w2 b2 (ownAt m c)) shapeCasts_S1000x128x3_S1000x384 := by
  rw [returned_as]
  refine congrArg (fun a => shapeCast S1000x384 a shapeCasts_S1000x128x3_S1000x384) (funext fun i => ?_)
  rw [← ix3_eta i]
  pointwise
  exact result_at m hg c x w1 b1 w2 b2 hm (i 2) ⟨(i 0).val, Nat.lt_trans (i 0).isLt (by decide)⟩ (i 1)

variable (ρ : Dev nD → PrngReg)

/-- The run, read: the output as returned, the arguments unchanged. -/
theorem run_returned : θ_run defs (onTc (τ := τ) (main (F := Ideal))) ⟨m, fun _ => 0, ρ⟩ fun r => ∀ c : Dev nD,
      r.2.mem ((c.tc : Thread nD τ).loc main_v13) = returned m hg c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h.1 c).2 main_v13 (Pipeline.mem_restRefs_of main_v13 (by decide) (by decide)), h.2 c⟩)
    (θ_run_and (run_main m ρ hg) (frame_of m ρ (dats m hg) (A_eq m hg) (run_main m ρ hg)))

end Cert.KernelIdeal.Hand
-- ==== Proof.ReferenceIdeal.Stages.lean ====
/- The reference's value, cut into the stages its text is written in. -/
module

public import proofs.«01_k».proof.Proof.Gen.ReferenceIdeal.Run

@[expose] public section

noncomputable section

namespace Cert.ReferenceIdeal.Stages

open Cert.ReferenceIdeal Cert.ReferenceIdeal.Gen Idealize.ShloMosaic Idealize.ShloMosaic.TcCoe

variable {F : FTy → Type} [FloatOps F]

/-- The hidden layer before its activation. -/
def hiddenOf (a0 : Vec F S320000x128 .f32) (a2 : Vec F S128x32 .f32) (a3 : Vec F S32 .f32) : Vec F S320000x32 .f32 :=
  addf (Host.dotGeneral dot_S320000x128_S128x32_S320000x32_1_0_0_1_n_n none a0 a2)
    (broadcastInDim S320000x32 ![0, 1] bcast_S1x32_S320000x32_0_1 (broadcastInDim S1x32 ![1] bcast_S32_S1x32_1 a3))

/-- The hidden layer after it. -/
def activeOf (z : Vec F S320000x32 .f32) : Vec F S320000x32 .f32 :=
  mulf z (Host.divf (broadcastInDim S320000x32 ![] bcast_S_S320000x32 (constant S_ .f32 0x3F800000#32))
    (addf (broadcastInDim S320000x32 ![] bcast_S_S320000x32 (constant S_ .f32 0x3F800000#32)) (Host.exp (Host.negf z))))

/-- The scores, of the hidden layer. -/
def scoresOf (z : Vec F S320000x32 .f32) (a4 : Vec F S32x3 .f32) (a5 : Vec F S3 .f32) : Vec F S320000x3 .f32 :=
  addf (Host.dotGeneral dot_S320000x32_S32x3_S320000x3_1_0_0_1_n_n none (activeOf z) a4)
    (broadcastInDim S320000x3 ![0, 1] bcast_S1x3_S320000x3_0_1 (broadcastInDim S1x3 ![1] bcast_S3_S1x3_1 a5))

/-- The owners as a column, -/
def ownersOf (a1 : IVec S320000 32) : IVec S320000x1 32 := broadcastInDim S320000x1 ![0] bcast_S320000_S320000x1_0 a1

/-- and as an index into an array reads them: a negative one counts from the end. -/
def wrappedOf (a1 : IVec S320000 32) : IVec S320000x1 32 :=
  broadcastInDim S320000x1 ![0] bcast_S320000_S320000x1_0
    (select (cmpi .slt a1 (broadcastInDim S320000 ![] bcast_S_S320000 (constantI S_ 32 0#32)))
      (addi a1 (broadcastInDim S320000 ![] bcast_S_S320000 (constantI S_ 32 1000#32))) a1)

/-- Every score in its owner's row, minus infinity in the others. -/
def spreadOf (a1 : IVec S320000 32) (w : Vec F S320000x3 .f32) : Vec F S320000x1000x3 .f32 :=
  select
    (broadcastInDim S320000x1000x3 ![0, 1, 2] bcast_S320000x1000x1_S320000x1000x3_0_1_2
      (cmpi .eq
        (broadcastInDim S320000x1000x1 ![0, 1, 2] bcast_S320000x1x1_S320000x1000x1_0_1_2
          (broadcastInDim S320000x1x1 ![0] bcast_S320000_S320000x1x1_0 a1))
        (broadcastInDim S320000x1000x1 ![0, 1, 2] bcast_S1x1000x1_S320000x1000x1_0_1_2 (iotaInDim S1x1000x1 32 1))))
    (broadcastInDim S320000x1000x3 ![0, 1, 2] bcast_S320000x1x3_S320000x1000x3_0_1_2
      (broadcastInDim S320000x1x3 ![0, 2] bcast_S320000x3_S320000x1x3_0_2 w))
    (broadcastInDim S320000x1000x3 ![] bcast_S_S320000x1000x3 (id (constant S_ .f32 0xFF800000#32)))

/-- Each segment's largest score. -/
def largestOf (a1 : IVec S320000 32) (w : Vec F S320000x3 .f32) : Vec F S1000x3 .f32 :=
  Host.reduce FloatOps.maximumf (spreadOf a1 w) (constant S_ .f32 0xFF800000#32) reducesTo_S320000x1000x3_S1000x3_d0 h_S_

/-- A segment's row for each of its points. -/
def rowsOf (t : Vec F S1000x3 .f32) (a1 : IVec S320000 32) : Vec F S320000x3 .f32 :=
  Host.gather gather_S1000x3_S320000x1_S320000x3_1_0_n_n_0_1_13 t (wrappedOf a1)

/-- The exponentials, each score lowered by its segment's largest. -/
def expOf (a1 : IVec S320000 32) (w : Vec F S320000x3 .f32) : Vec F S320000x3 .f32 :=
  Host.exp (subf w (rowsOf (largestOf a1 w) a1))

/-- Their totals by segment. -/
def totalsOf (a1 : IVec S320000 32) (e : Vec F S320000x3 .f32) : Vec F S1000x3 .f32 :=
  Host.scatterAdd scatter_S1000x3_S320000x1_S320000x3_1_0_0_1
    (broadcastInDim S1000x3 ![] bcast_S_S1000x3 (constant S_ .f32 0x00000000#32)) (ownersOf a1) e

/-- Each exponential over its segment's total. -/
def sharesOf (a1 : IVec S320000 32) (e : Vec F S320000x3 .f32) : Vec F S320000x3 .f32 :=
  Host.divf e (rowsOf (totalsOf a1 e) a1)

/-- The features weighted by one head's shares, totalled by segment. -/
def headOf (a0 : Vec F S320000x128 .f32) (a1 : IVec S320000 32) (p : Vec F S320000x1 .f32) : Vec F S1000x128 .f32 :=
  Host.scatterAdd scatter_S1000x128_S320000x1_S320000x128_1_0_0_1
    (broadcastInDim S1000x128 ![] bcast_S_S1000x128 (constant S_ .f32 0x00000000#32)) (ownersOf a1)
    (mulf a0 (broadcastInDim S320000x128 ![0, 1] bcast_S320000x1_S320000x128_0_1 p))

/-- The three heads side by side. -/
def stackOf (o0 o1 o2 : Vec F S1000x128 .f32) : Vec F S1000x128x3 .f32 :=
  concatenate S1000x128x3 2
    [⟨S1000x128x1, broadcastInDim S1000x128x1 ![0, 1] bcast_S1000x128_S1000x128x1_0_1 o0⟩,
     ⟨S1000x128x1, broadcastInDim S1000x128x1 ![0, 1] bcast_S1000x128_S1000x128x1_0_1 o1⟩,
     ⟨S1000x128x1, broadcastInDim S1000x128x1 ![0, 1] bcast_S1000x128_S1000x128x1_0_1 o2⟩]
    concatenates_S1000x128x1_S1000x128x1_S1000x128x1_S1000x128x3_d2

/-- The whole, before the last reshape. -/
def pooledOf (a0 : Vec F S320000x128 .f32) (a1 : IVec S320000 32) (p : Vec F S320000x3 .f32) : Vec F S1000x128x3 .f32 :=
  stackOf (headOf a0 a1 (extractStridedSlice S320000x1 ![0, 0] p slices_S320000x3_S320000x1_0_0))
    (headOf a0 a1 (extractStridedSlice S320000x1 ![0, 1] p slices_S320000x3_S320000x1_0_1))
    (headOf a0 a1 (extractStridedSlice S320000x1 ![0, 2] p slices_S320000x3_S320000x1_0_2))

theorem value_eq (m : (ℓ : Loc nD τ sig) → Buf (Elt F) ℓ) (c : Dev nD)
    (a0 : Vec F S320000x128 .f32) (a1 : IVec S320000 32) (a2 : Vec F S128x32 .f32) (a3 : Vec F S32 .f32) (a4 : Vec F S32x3 .f32) (a5 : Vec F S3 .f32)
    (h0 : m ((c.tc : Thread nD τ).loc main_arg0) = a0) (h1 : m ((c.tc : Thread nD τ).loc main_arg1) = a1)
    (h2 : m ((c.tc : Thread nD τ).loc main_arg2) = a2) (h3 : m ((c.tc : Thread nD τ).loc main_arg3) = a3)
    (h4 : m ((c.tc : Thread nD τ).loc main_arg4) = a4) (h5 : m ((c.tc : Thread nD τ).loc main_arg5) = a5) :
    Value.res_main_v59 m c
      = shapeCast S1000x384 (pooledOf a0 a1 (sharesOf a1 (expOf a1 (scoresOf (hiddenOf a0 a2 a3) a4 a5)))) shapeCasts_S1000x128x3_S1000x384 := by
  subst h0 h1 h2 h3 h4 h5
  rfl

end Cert.ReferenceIdeal.Stages
-- ==== Proof.ReferenceIdeal.Rows.lean ====
/- Rows picked out of, and added into, an array by an index per row: the two host operations the reference is made of,
   over the extended reals, at an index. -/
module

public import Idealize.ShloMosaic.Lib.Routing.Ops
public import Idealize.ShloMosaic.Lib.Pointwise.Index
public import Idealize.ShloMosaic.PureOps.Ideal

@[expose] public section

noncomputable section

namespace Cert.Rows

open Idealize.ShloMosaic

variable {S B N : ℕ} (wf : ScatterDims.WF ⟨2, ![S, B]⟩ ⟨2, ![N, 1]⟩ ⟨2, ![N, B]⟩ [1] [0] [0] 1)

/-- The dimension numbers of a sum of rows by owner. -/
abbrev rowDims : ScatterDims ⟨2, ![S, B]⟩ ⟨2, ![N, 1]⟩ ⟨2, ![N, B]⟩ := ⟨[1], [0], [0], 1, wf⟩

/-- Entry `(n, b)` is added at `(s, b)` where the row's index, read signed, is `s`. -/
theorem row_lands (idx : IVec ⟨2, ![N, 1]⟩ 32) (n : Fin N) (b : Fin B) (s : Fin S) (e : Fin B) :
    (rowDims wf).resultIdx? (ix2 n b) idx = some (ix2 s e) ↔ (idx (ix2 n 0)).toInt = (s.val : ℤ) ∧ b = e := by
  have w0 : (rowDims wf).window (ix2 n b) 0 = 0 := rfl
  have w1 : (rowDims wf).window (ix2 n b) 1 = b.val := rfl
  have s1 : (rowDims wf).start (ix2 n b) idx 1 = 0 := rfl
  have s0 : (rowDims wf).start (ix2 n b) idx 0 = (idx (ix2 n 0)).toInt :=
    congrArg (fun k => (idx k).toInt) (funext fun a => by
      match a with
      | ⟨0, _⟩ => rfl
      | ⟨1, _⟩ => rfl)
  have hs := s.isLt
  have hb := b.isLt
  unfold ScatterDims.resultIdx?
  constructor
  · intro e'
    split at e'
    · next h =>
      have h0 := congrArg Fin.val (congrFun (Option.some.inj e') 0)
      have h1 := congrArg Fin.val (congrFun (Option.some.inj e') 1)
      have g0 := h 0
      change ((rowDims wf).start (ix2 n b) idx 0 + (rowDims wf).window (ix2 n b) 0).toNat = s.val at h0
      change ((rowDims wf).start (ix2 n b) idx 1 + (rowDims wf).window (ix2 n b) 1).toNat = e.val at h1
      rw [s0, w0] at h0 g0
      rw [s1, w1] at h1
      exact ⟨by omega, Fin.ext (by omega)⟩
    · cases e'
  · rintro ⟨h0, rfl⟩
    rw [dif_pos fun a => by
      match a with
      | ⟨0, _⟩ =>
        show 0 ≤ (rowDims wf).start (ix2 n b) idx 0 + ((rowDims wf).window (ix2 n b) 0 : ℤ) ∧ (rowDims wf).start (ix2 n b) idx 0 + ((rowDims wf).window (ix2 n b) 0 : ℤ) < (S : ℤ)
        rw [s0, w0]; omega
      | ⟨1, _⟩ =>
        show 0 ≤ (rowDims wf).start (ix2 n b) idx 1 + ((rowDims wf).window (ix2 n b) 1 : ℤ) ∧ (rowDims wf).start (ix2 n b) idx 1 + ((rowDims wf).window (ix2 n b) 1 : ℤ) < (B : ℤ)
        rw [s1, w1]; omega]
    refine congrArg some (funext fun a => Fin.ext ?_)
    match a with
    | ⟨0, _⟩ =>
      show ((rowDims wf).start (ix2 n b) idx 0 + ((rowDims wf).window (ix2 n b) 0 : ℤ)).toNat = s.val
      rw [s0, w0]; omega
    | ⟨1, _⟩ =>
      show ((rowDims wf).start (ix2 n b) idx 1 + ((rowDims wf).window (ix2 n b) 1 : ℤ)).toNat = b.val
      rw [s1, w1]; omega

/-- So the sum of rows by owner holds at `(s, e)` the sum over the rows `s` owns. -/
theorem rows_added (v : FVec Ideal ⟨2, ![S, B]⟩ .f32) (idx : IVec ⟨2, ![N, 1]⟩ 32) (upd : FVec Ideal ⟨2, ![N, B]⟩ .f32) (s : Fin S) (e : Fin B) :
    Host.scatterAdd (rowDims wf) v idx upd (ix2 s e)
      = ((v (ix2 s e) : EReal) + ∑ n : Fin N, if (idx (ix2 n 0)).toInt = (s.val : ℤ) then (upd (ix2 n e) : EReal) else 0 : EReal) := by
  show ((v (ix2 s e) : EReal) + ∑ j ∈ Finset.univ.filter (fun j => (rowDims wf).resultIdx? j idx = some (ix2 s e)), (upd j : EReal)) = _
  rw [Finset.sum_filter, sum_idx2]
  refine congrArg _ (Finset.sum_congr rfl fun n _ => ?_)
  simp only [row_lands]
  by_cases h : (idx (ix2 n 0)).toInt = (s.val : ℤ)
  · rw [if_pos h, Finset.sum_eq_single e (fun b _ hb => if_neg fun k => hb k.2) (fun hn => absurd (Finset.mem_univ e) hn), if_pos ⟨h, rfl⟩]
  · rw [if_neg h, Finset.sum_eq_zero fun b _ => if_neg fun k => h k.1]

end Cert.Rows
-- ==== Proof.ReferenceIdeal.Scores.lean ====
/- The reference's stages over the extended reals, at an index. -/
module

public import proofs.«01_k».proof.Proof.ReferenceIdeal.Stages
public import proofs.«01_k».proof.Proof.ReferenceIdeal.Rows
public import proofs.«01_k».proof.Proof.Model
public import Idealize.ShloMosaic.Lib.Pointwise

@[expose] public section

noncomputable section

namespace Cert.ReferenceIdeal.Stages

open Cert.ReferenceIdeal Cert.ReferenceIdeal.Gen Idealize.ShloMosaic Idealize.ShloMosaic.TcCoe
open Cert.Model

/-- The pattern the maxima start from is minus infinity. -/
theorem lowest : Ideal.ofBits .f32 0xFF800000#32 = (⊥ : EReal) := by simp [Ideal.ofBits, Ideal.ieee]

theorem hidden_at (a0 : Vec Ideal S320000x128 .f32) (a2 : Vec Ideal S128x32 .f32) (a3 : Vec Ideal S32 .f32) (i : Fin 320000) (j : Fin 32) :
    hiddenOf a0 a2 a3 (ix2 i j) = ((∑ k : Fin 128, (a0 (ix2 i k) : EReal) * a2 (ix2 k j)) + a3 (ix1 j) : EReal) := by
  unfold hiddenOf
  pointwise

theorem active_at (z : Vec Ideal S320000x32 .f32) (i : Fin 320000) (j : Fin 32) :
    activeOf z (ix2 i j) = ((z (ix2 i j) : EReal) * Ideal.div 1 (1 + Ideal.exp (-(z (ix2 i j) : EReal))) : EReal) := by
  unfold activeOf
  pointwise

theorem scores_at (z : Vec Ideal S320000x32 .f32) (a4 : Vec Ideal S32x3 .f32) (a5 : Vec Ideal S3 .f32) (i : Fin 320000) (h : Fin 3) :
    scoresOf z a4 a5 (ix2 i h) = ((∑ j : Fin 32, (activeOf z (ix2 i j) : EReal) * a4 (ix2 j h)) + a5 (ix1 h) : EReal) := by
  unfold scoresOf
  pointwise

theorem owners_at (a1 : IVec S320000 32) (i : Fin 320000) : ownersOf a1 (ix2 i 0) = a1 (ix1 i) := by
  unfold ownersOf
  pointwise

theorem wrapped_at (a1 : IVec S320000 32) (i : Fin 320000) :
    wrappedOf a1 (ix2 i 0) = if (a1 (ix1 i)).slt 0#32 then a1 (ix1 i) + 1000#32 else a1 (ix1 i) := by
  unfold wrappedOf
  pointwise
  cases h : (a1 (ix1 i)).slt 0#32 <;> simp [Scalar.select, IntOp.cmpi, IntOp.addi, h]

theorem spread_at (a1 : IVec S320000 32) (w : Vec Ideal S320000x3 .f32) (i : Fin 320000) (s : Fin 1000) (h : Fin 3) :
    spreadOf a1 w (ix3 i s h) = (if a1 (ix1 i) = BitVec.ofNat 32 s.val then (w (ix2 i h) : EReal) else ⊥ : EReal) := by
  unfold spreadOf
  pointwise
  show Scalar.select (IntOp.cmpi .eq (a1 (ix1 i)) (BitVec.ofNat 32 s.val)) (w (ix2 i h) : EReal) (Ideal.ofBits .f32 0xFF800000#32) = _
  rw [lowest]
  by_cases h : a1 (ix1 i) = BitVec.ofNat 32 s.val
  · rw [if_pos h, h]
    simp [Scalar.select, IntOp.cmpi]
  · rw [if_neg h]
    simp [Scalar.select, IntOp.cmpi, beq_eq_false_iff_ne.2 h]

theorem largest_at (a1 : IVec S320000 32) (w : Vec Ideal S320000x3 .f32) (s : Fin 1000) (h : Fin 3) :
    largestOf a1 w (ix2 s h) = ((Finset.univ : Finset (Fin 320000)).fold max (⊥ : EReal) fun i => spreadOf a1 w (ix3 i s h) : EReal) := by
  unfold largestOf
  pointwise
  rw [lowest]

theorem exp_at (a1 : IVec S320000 32) (w : Vec Ideal S320000x3 .f32) (i : Fin 320000) (h : Fin 3) :
    expOf a1 w (ix2 i h) = (Ideal.exp ((w (ix2 i h) : EReal) - rowsOf (largestOf a1 w) a1 (ix2 i h)) : EReal) := by
  unfold expOf
  pointwise

theorem shares_at (a1 : IVec S320000 32) (e : Vec Ideal S320000x3 .f32) (i : Fin 320000) (h : Fin 3) :
    sharesOf a1 e (ix2 i h) = (Ideal.div (e (ix2 i h)) (rowsOf (totalsOf a1 e) a1 (ix2 i h)) : EReal) := by
  unfold sharesOf
  pointwise

theorem totals_at (a1 : IVec S320000 32) (e : Vec Ideal S320000x3 .f32) (s : Fin 1000) (h : Fin 3) :
    totalsOf a1 e (ix2 s h) = (∑ i : Fin 320000, if (a1 (ix1 i)).toInt = (s.val : ℤ) then (e (ix2 i h) : EReal) else 0 : EReal) := by
  refine (Cert.Rows.rows_added _ _ _ _ s h).trans ?_
  pointwise
  simp only [owners_at]

theorem head_at (a0 : Vec Ideal S320000x128 .f32) (a1 : IVec S320000 32) (p : Vec Ideal S320000x1 .f32) (s : Fin 1000) (d : Fin 128) :
    headOf a0 a1 p (ix2 s d) = (∑ i : Fin 320000, if (a1 (ix1 i)).toInt = (s.val : ℤ) then (a0 (ix2 i d) : EReal) * p (ix2 i 0) else 0 : EReal) := by
  refine (Cert.Rows.rows_added _ _ _ _ s d).trans ?_
  pointwise
  simp only [owners_at]

theorem stack_at (o : Fin 3 → Vec Ideal S1000x128 .f32) (s : Fin 1000) (d : Fin 128) (h : Fin 3) :
    stackOf (o 0) (o 1) (o 2) (ix3 s d h) = o h (ix2 s d) := by
  unfold stackOf
  match h with
  | ⟨0, _⟩ => pointwise
  | ⟨1, _⟩ => pointwise
  | ⟨2, _⟩ => pointwise

theorem rows_at (t : Vec Ideal S1000x3 .f32) (a1 : IVec S320000 32) (i : Fin 320000) (h : Fin 3) (s : Fin 1000)
    (hs : a1 (ix1 i) = BitVec.ofNat 32 s.val) : rowsOf t a1 (ix2 i h) = t (ix2 s h) := by
  refine Routing.gather_row _ rfl rfl rfl rfl rfl t (wrappedOf a1) i h s ?_ (by decide)
  show wrappedOf a1 (ix2 i 0) = _
  rw [wrapped_at, hs, if_neg]
  have := s.isLt
  simp only [BitVec.slt, decide_eq_true_eq]
  rw [StableHlo.Predicate.toInt_ofNat_small _ (by omega)]
  simp

end Cert.ReferenceIdeal.Stages
-- ==== Proof.ReferenceIdeal.Pooled.lean ====
/- The reference over the reals: the softmax by segment, and the pooled values. -/
module

public import proofs.«01_k».proof.Proof.ReferenceIdeal.Scores

@[expose] public section

noncomputable section

namespace Cert.ReferenceIdeal.Stages

open Cert.ReferenceIdeal Cert.ReferenceIdeal.Gen Idealize.ShloMosaic Idealize.ShloMosaic.TcCoe
open Cert.Model

/-- A small word read signed is the word. -/
theorem signed_iff {a : BitVec 32} (h : a.toNat < 1000) (s : ℕ) : a.toInt = (s : ℤ) ↔ a.toNat = s := by
  rw [BitVec.toInt_eq_toNat_of_lt (by omega)]
  exact Int.ofNat_inj

/-- The quotient of two reals. -/
theorem div_real {a b : ℝ} (h : b ≠ 0) : Ideal.div (a : EReal) (b : EReal) = ((a / b : ℝ) : EReal) := by
  rw [Ideal.div_coe h, ← EReal.coe_mul, mul_one_div]

variable (a0 : Vec Ideal S320000x128 .f32) (a1 : IVec S320000 32) (a2 : Vec Ideal S128x32 .f32) (a3 : Vec Ideal S32 .f32)
  (a4 : Vec Ideal S32x3 .f32) (a5 : Vec Ideal S3 .f32)
variable (x : Fin 320000 → Fin 128 → ℝ) (w1 : Fin 128 → Fin 32 → ℝ) (b1 : Fin 32 → ℝ) (w2 : Fin 32 → Fin 3 → ℝ) (b2 : Fin 3 → ℝ)
variable (h0 : ∀ i k, a0 (ix2 i k) = (x i k : EReal)) (h1 : ∀ i, (a1 (ix1 i)).toNat < 1000)
  (h2 : ∀ k j, a2 (ix2 k j) = (w1 k j : EReal)) (h3 : ∀ j, a3 (ix1 j) = (b1 j : EReal))
  (h4 : ∀ j h, a4 (ix2 j h) = (w2 j h : EReal)) (h5 : ∀ h, a5 (ix1 h) = (b2 h : EReal))

/-- The scores. -/
abbrev scored : Vec Ideal S320000x3 .f32 := scoresOf (hiddenOf a0 a2 a3) a4 a5

include h0 h2 h3 h4 h5 in
theorem scored_at (i : Fin 320000) (h : Fin 3) : scored a0 a2 a3 a4 a5 (ix2 i h) = (score x w1 b1 w2 b2 i h : EReal) := by
  have hz : ∀ j, hiddenOf a0 a2 a3 (ix2 i j) = (hidden x w1 b1 i j : EReal) := fun j => by
    rw [hidden_at, Model.hidden, EReal.coe_add, coe_sum, h3]
    refine congrArg (· + (b1 j : EReal)) (Finset.sum_congr rfl fun k _ => ?_)
    rw [h0, h2, ← EReal.coe_mul, mul_comm]
  rw [scored, scores_at, score, EReal.coe_add, coe_sum, h5]
  refine congrArg (· + (b2 h : EReal)) (Finset.sum_congr rfl fun j _ => ?_)
  rw [active_at, hz, h4, ← zero_sub, silu_coe, ← EReal.coe_mul, mul_comm]

variable (w : Vec Ideal S320000x3 .f32) (σ : Fin 320000 → Fin 3 → ℝ) (hw : ∀ i h, w (ix2 i h) = (σ i h : EReal))

/-- The segment that owns a point. -/
abbrev ownOf (i : Fin 320000) : ℕ := (a1 (ix1 i)).toNat

/-- The largest score of a point's segment. -/
def peak (i : Fin 320000) (h : Fin 3) : ℝ := EReal.toReal (largestOf a1 w (ix2 ⟨ownOf a1 i, h1 i⟩ h))

theorem word_eq (i : Fin 320000) : a1 (ix1 i) = BitVec.ofNat 32 (ownOf a1 i) := by simp [ownOf]

include hw in
/-- It is a real number: every entry is below plus infinity, and the point's own is above minus infinity. -/
theorem peak_coe (i : Fin 320000) (h : Fin 3) : largestOf a1 w (ix2 ⟨ownOf a1 i, h1 i⟩ h) = (peak a1 h1 w i h : EReal) := by
  refine (EReal.coe_toReal ?_ ?_).symm
  · rw [largest_at]
    refine ne_of_lt (Finset.fold_max_lt _ |>.mpr ⟨bot_lt_top, fun j _ => ?_⟩)
    rw [spread_at]
    split
    · rw [hw]; exact EReal.coe_lt_top _
    · exact bot_lt_top
  · rw [largest_at]
    refine ne_of_gt (Finset.lt_fold_max _ |>.mpr (Or.inr ⟨i, Finset.mem_univ i, ?_⟩))
    rw [spread_at, if_pos (word_eq a1 i), hw]
    exact EReal.bot_lt_coe _

theorem peak_same (i j : Fin 320000) (h : Fin 3) (e : ownOf a1 i = ownOf a1 j) : peak a1 h1 w i h = peak a1 h1 w j h := by
  unfold peak
  simp only [e]

include hw in
theorem exp_real (i : Fin 320000) (h : Fin 3) : expOf a1 w (ix2 i h) = (Real.exp (σ i h - peak a1 h1 w i h) : EReal) := by
  rw [exp_at, rows_at _ a1 i h ⟨ownOf a1 i, h1 i⟩ (word_eq a1 i), peak_coe a1 h1 w σ hw, hw, ← EReal.coe_sub, Ideal.exp_coe]

include hw h1 in
theorem totals_real (s : Fin 1000) (h : Fin 3) : totalsOf a1 (expOf a1 w) (ix2 s h)
    = ((∑ i, if ownOf a1 i = s.val then Real.exp (σ i h - peak a1 h1 w i h) else 0 : ℝ) : EReal) := by
  rw [totals_at, coe_sum]
  refine Finset.sum_congr rfl fun i _ => ?_
  simp only [signed_iff (h1 i)]
  split
  · exact exp_real a1 h1 w σ hw i h
  · rfl

include hw in
theorem shares_real (i : Fin 320000) (h : Fin 3) : sharesOf a1 (expOf a1 w) (ix2 i h)
    = ((Real.exp (σ i h - peak a1 h1 w i h) / ∑ j, if ownOf a1 j = ownOf a1 i then Real.exp (σ j h - peak a1 h1 w j h) else 0 : ℝ) : EReal) := by
  rw [shares_at, rows_at _ a1 i h ⟨ownOf a1 i, h1 i⟩ (word_eq a1 i), totals_real a1 h1 w σ hw, exp_real a1 h1 w σ hw]
  refine div_real (ne_of_gt (Finset.sum_pos' (fun j _ => ?_) ⟨i, Finset.mem_univ i, ?_⟩))
  · split
    · exact (Real.exp_pos _).le
    · exact le_rfl
  · rw [if_pos rfl]; exact Real.exp_pos _

include h0 h1 h2 h3 h4 h5 in
/-- The reference's pooled values. -/
theorem pooled_eq : pooledOf a0 a1 (sharesOf a1 (expOf a1 (scored a0 a2 a3 a4 a5))) = pooledArray x w1 b1 w2 b2 (ownOf a1) := by
  have hw := scored_at a0 a2 a3 a4 a5 x w1 b1 w2 b2 h0 h2 h3 h4 h5
  have hcol : ∀ (p : Vec Ideal S320000x1 .f32) (h : Fin 3)
      (hp : ∀ i, p (ix2 i 0) = sharesOf a1 (expOf a1 (scored a0 a2 a3 a4 a5)) (ix2 i h)) (s : Fin 1000) (d : Fin 128),
      headOf a0 a1 p (ix2 s d) = (pooled x w1 b1 w2 b2 (ownOf a1) s.val h d : EReal) := fun p h hp s d => by
    rw [head_at, ← pooled_shift x w1 b1 w2 b2 (ownOf a1) (fun i => peak a1 h1 (scored a0 a2 a3 a4 a5) i h) s.val h d
      (fun i j e => peak_same a1 h1 _ i j h e), coe_sum]
    refine Finset.sum_congr rfl fun i _ => ?_
    simp only [signed_iff (h1 i)]
    split
    · rw [hp, shares_real a1 h1 _ _ hw, h0, ← EReal.coe_mul]
    · rfl
  refine funext fun i => ?_
  rw [← ix3_eta i]
  refine (stack_at (fun h => match h with
    | ⟨0, _⟩ => headOf a0 a1 (extractStridedSlice S320000x1 ![0, 0] (sharesOf a1 (expOf a1 (scored a0 a2 a3 a4 a5))) slices_S320000x3_S320000x1_0_0)
    | ⟨1, _⟩ => headOf a0 a1 (extractStridedSlice S320000x1 ![0, 1] (sharesOf a1 (expOf a1 (scored a0 a2 a3 a4 a5))) slices_S320000x3_S320000x1_0_1)
    | ⟨2, _⟩ => headOf a0 a1 (extractStridedSlice S320000x1 ![0, 2] (sharesOf a1 (expOf a1 (scored a0 a2 a3 a4 a5))) slices_S320000x3_S320000x1_0_2))
    (i 0) (i 1) (i 2)).trans ?_
  generalize (i 2 : Fin 3) = h
  match h with
  | ⟨0, _⟩ => exact hcol _ ⟨0, by decide⟩ (fun n => by pointwise) (i 0) (i 1)
  | ⟨1, _⟩ => exact hcol _ ⟨1, by decide⟩ (fun n => by pointwise) (i 0) (i 1)
  | ⟨2, _⟩ => exact hcol _ ⟨2, by decide⟩ (fun n => by pointwise) (i 0) (i 1)

end Cert.ReferenceIdeal.Stages
-- ==== Proof.lean ====
/- The claims of this directory, assembled from the modules under Proof/: the three frames, the idealization, and the
   value of the kernel over the reals. -/
module

public import proofs.«01_k».proof.Defs
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init
public import proofs.«01_k».proof.Proof.Gen.ReferenceIdeal.Run
public import proofs.«01_k».proof.Proof.KernelIdeal.Ranged
public import proofs.«01_k».proof.Proof.SameProgram
public import proofs.«01_k».proof.Proof.Reals
public import proofs.«01_k».proof.Proof.KernelIdeal.Result
public import proofs.«01_k».proof.Proof.ReferenceIdeal.Pooled

@[expose] public section

noncomputable section

namespace Cert.Proof

open Idealize.ShloMosaic Idealize.SL.Sem

instance owners_facts : Cert.Pre_owners_in_range.Facts where
  bcast_S_S320000 := by decide

theorem frame_kernel : Cert.quiescent_Kernel := fun m ρ h =>
  Cert.SameProgram.kernel_frame m ρ (Cert.KernelIdeal.Hand.inRange_of m fun c n => Cert.Inputs.owners _ _ _ _ _ _ (h c) n)

theorem frame_ideal : Cert.quiescent_KernelIdeal := fun m ρ h =>
  Cert.KernelIdeal.Hand.frame_in_range m ρ (Cert.KernelIdeal.Hand.inRange_of m fun c n => Cert.Inputs.owners _ _ _ _ _ _ (h c) n)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

instance finite_facts : Cert.Pre_finite_and_in_range.Facts where
  bcast_S_S320000 := by decide
  bcast_S_S320000x128 := by decide
  bcast_S_S128x32 := by decide
  bcast_S_S32 := by decide
  bcast_S_S32x3 := by decide
  bcast_S_S3 := by decide

/-- The precondition keeps every owner among the segments. -/
theorem owners_of (m : (ℓ : Loc Cert.KernelIdeal.nD Cert.KernelIdeal.τ Cert.KernelIdeal.sig) → Buf (Elt Ideal) ℓ)
    (h : Cert.Pre_KernelIdeal_finite_and_in_range m) (c : Dev Cert.KernelIdeal.nD) (n : Fin 320000) : Cert.KernelIdeal.Hand.ownAt m c n < 1000 :=
  (Cert.Inputs.finite _ _ _ _ _ _ (h c).1 (h c).2.1 (h c).2.2.1 (h c).2.2.2.1 (h c).2.2.2.2.1 (h c).2.2.2.2.2).1 n

theorem in_range_of (m : (ℓ : Loc Cert.KernelIdeal.nD Cert.KernelIdeal.τ Cert.KernelIdeal.sig) → Buf (Elt Ideal) ℓ)
    (h : Cert.Pre_KernelIdeal_finite_and_in_range m) : Cert.KernelIdeal.Hand.InRange (F := Ideal) m :=
  Cert.KernelIdeal.Hand.inRange_of m (owners_of m h)

theorem frame_ideal_finite : Cert.quiescent_KernelIdeal_pre_finite_and_in_range := fun m ρ h =>
  Cert.KernelIdeal.Hand.frame_in_range m ρ (in_range_of m h)

theorem frame_reference_finite : Cert.quiescent_ReferenceIdeal_pre_finite_and_in_range := fun m ρ _ => frame_reference m ρ trivial

/-- Its float arguments are real numbers. -/
theorem reals_of (m : (ℓ : Loc Cert.KernelIdeal.nD Cert.KernelIdeal.τ Cert.KernelIdeal.sig) → Buf (Elt Ideal) ℓ)
    (h : Cert.Pre_KernelIdeal_finite_and_in_range m) (c : Dev Cert.KernelIdeal.nD) :
    ∃ x w1 b1 w2 b2, Cert.KernelIdeal.Hand.Holds m c x w1 b1 w2 b2 := by
  obtain ⟨_, h0, h2, h3, h4, h5⟩ :=
    Cert.Inputs.finite _ _ _ _ _ _ (h c).1 (h c).2.1 (h c).2.2.1 (h c).2.2.2.1 (h c).2.2.2.2.1 (h c).2.2.2.2.2
  choose x hx using h0
  choose w1 hw1 using h2
  choose b1 hb1 using h3
  choose w2 hw2 using h4
  choose b2 hb2 using h5
  exact ⟨fun i k => x (ix2 i k), fun k j => w1 (ix2 k j), fun j => b1 (ix1 j), fun j e => w2 (ix2 j e), fun e => b2 (ix1 e),
    fun i k => hx (ix2 i k), fun k j => hw1 (ix2 k j), fun j => hb1 (ix1 j), fun j e => hw2 (ix2 j e), fun e => hb2 (ix1 e)⟩

/-- Where the arguments agree, the reference returns what the kernel does: each the pooled values, the kernel's as one
    division of totals, the reference's as a softmax by segment. -/
theorem values_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : Cert.Pre_KernelIdeal_finite_and_in_range m) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.res_main_v59 m' c = Cert.KernelIdeal.Hand.returned m (in_range_of m h) c := by
  obtain ⟨x, w1, b1, w2, b2, hm⟩ := reals_of m h c
  refine (Cert.ReferenceIdeal.Stages.value_eq m' c _ _ _ _ _ _ e0 e1 e2 e3 e4 e5).trans ?_
  rw [Cert.ReferenceIdeal.Stages.pooled_eq _ _ _ _ _ _ x w1 b1 w2 b2 hm.x (owners_of m h c) hm.w1 hm.b1 hm.w2 hm.b2]
  exact (Cert.KernelIdeal.Hand.returned_eq m (in_range_of m h) c x w1 b1 w2 b2 hm).symm

theorem algebraic : Cert.algebraic_KernelIdeal_ReferenceIdeal_pre_finite_and_in_range := fun m ρ m' ρ' h hargs =>
  ⟨Cert.KernelIdeal.Hand.returned m (in_range_of m h), Cert.KernelIdeal.Hand.run_returned m (in_range_of m h) ρ,
    (θ_run Cert.ReferenceIdeal.defs _ _).mono
      (fun _ hr c => ⟨(hr c).1.trans (values_agree m m' h c (hargs c).1 (hargs c).2.1 (hargs c).2.2.1 (hargs c).2.2.2.1 (hargs c).2.2.2.2.1 (hargs c).2.2.2.2.2), (hr c).2⟩)
      (Cert.ReferenceIdeal.Value.run (F := Ideal) m' ρ')⟩

theorem claim : Cert.Claim := ⟨Cert.Kernel.Gen.facts, Cert.KernelIdeal.Gen.facts, Cert.ReferenceIdeal.Gen.facts, owners_facts, finite_facts,
  frame_kernel, frame_ideal, frame_ideal_finite, frame_reference, frame_reference_finite, trivial, algebraic⟩

end Cert.Proof

end
